-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_3)) (v1 : (c : Dev Cert.KernelIdeal.nD) → Buf (Elt Ideal) ((c.tc : Thread Cert.KernelIdeal.nD Cert.KernelIdeal.τ).loc Cert.KernelIdeal.main_v8_0)) (v2 : (c : Dev Cert.KernelIdeal.nD) → Buf (Elt Ideal) ((c.tc : Thread Cert.KernelIdeal.nD Cert.KernelIdeal.τ).loc Cert.KernelIdeal.main_v8_1)) (v3 : (c : Dev Cert.KernelIdeal.nD) → Buf (Elt Ideal) ((c.tc : Thread Cert.KernelIdeal.nD Cert.KernelIdeal.τ).loc Cert.KernelIdeal.main_v8_2)) (v4 : (c : Dev Cert.KernelIdeal.nD) → Buf (Elt Ideal) ((c.tc : Thread Cert.KernelIdeal.nD Cert.KernelIdeal.τ).loc Cert.KernelIdeal.main_v8_3)) (v5 : (c : Dev Cert.KernelIdeal.nD) → Buf (Elt Ideal) ((c.tc : Thread Cert.KernelIdeal.nD Cert.KernelIdeal.τ).loc Cert.KernelIdeal.main_v8_4)) (v6 : (c : Dev Cert.KernelIdeal.nD) → Buf (Elt Ideal) ((c.tc : Thread Cert.KernelIdeal.nD Cert.KernelIdeal.τ).loc Cert.KernelIdeal.main_v8_5)) (v7 : (c : Dev Cert.KernelIdeal.nD) → Buf (Elt Ideal) ((c.tc : Thread Cert.KernelIdeal.nD Cert.KernelIdeal.τ).loc Cert.KernelIdeal.main_v8_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_3) = v0 c
          ∧ r.2.mem ((c.tc : Thread Cert.KernelIdeal.nD Cert.KernelIdeal.τ).loc Cert.KernelIdeal.main_v8_0) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_v8_2) = v3 c
          ∧ r.2.mem ((c.tc : Thread Cert.KernelIdeal.nD Cert.KernelIdeal.τ).loc Cert.KernelIdeal.main_v8_3) = v4 c
          ∧ r.2.mem ((c.tc : Thread Cert.KernelIdeal.nD Cert.KernelIdeal.τ).loc Cert.KernelIdeal.main_v8_4) = v5 c
          ∧ r.2.mem ((c.tc : Thread Cert.KernelIdeal.nD Cert.KernelIdeal.τ).loc Cert.KernelIdeal.main_v8_5) = v6 c
          ∧ r.2.mem ((c.tc : Thread Cert.KernelIdeal.nD Cert.KernelIdeal.τ).loc Cert.KernelIdeal.main_v8_6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_v55) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_v35) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_v8) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)) →
    ∃ (v0 : (c : Dev Cert.KernelMlpIdeal.nD) → Buf (Elt Ideal) ((c.tc : Thread Cert.KernelMlpIdeal.nD Cert.KernelMlpIdeal.τ).loc Cert.KernelMlpIdeal.main_v3_0)) (v1 : (c : Dev Cert.KernelMlpIdeal.nD) → Buf (Elt Ideal) ((c.tc : Thread Cert.KernelMlpIdeal.nD Cert.KernelMlpIdeal.τ).loc Cert.KernelMlpIdeal.main_v3_1)) (v2 : (c : Dev Cert.KernelMlpIdeal.nD) → Buf (Elt Ideal) ((c.tc : Thread Cert.KernelMlpIdeal.nD Cert.KernelMlpIdeal.τ).loc Cert.KernelMlpIdeal.main_v3_2)) (v3 : (c : Dev Cert.KernelMlpIdeal.nD) → Buf (Elt Ideal) ((c.tc : Thread Cert.KernelMlpIdeal.nD Cert.KernelMlpIdeal.τ).loc Cert.KernelMlpIdeal.main_v3_3)) (v4 : (c : Dev Cert.KernelMlpIdeal.nD) → Buf (Elt Ideal) ((c.tc : Thread Cert.KernelMlpIdeal.nD Cert.KernelMlpIdeal.τ).loc Cert.KernelMlpIdeal.main_v3_4)) (v5 : (c : Dev Cert.KernelMlpIdeal.nD) → Buf (Elt Ideal) ((c.tc : Thread Cert.KernelMlpIdeal.nD Cert.KernelMlpIdeal.τ).loc Cert.KernelMlpIdeal.main_v3_5)) (v6 : (c : Dev Cert.KernelMlpIdeal.nD) → Buf (Elt Ideal) ((c.tc : Thread Cert.KernelMlpIdeal.nD Cert.KernelMlpIdeal.τ).loc Cert.KernelMlpIdeal.main_v3_6)) (v7 : (c : Dev Cert.KernelMlpIdeal.nD) → Buf (Elt Ideal) ((c.tc : Thread Cert.KernelMlpIdeal.nD Cert.KernelMlpIdeal.τ).loc Cert.KernelMlpIdeal.main_v3_7)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v3_0) = v0 c
          ∧ r.2.mem ((c.tc : Thread Cert.KernelMlpIdeal.nD Cert.KernelMlpIdeal.τ).loc Cert.KernelMlpIdeal.main_v3_1) = v1 c
          ∧ r.2.mem ((c.tc : Thread Cert.KernelMlpIdeal.nD Cert.KernelMlpIdeal.τ).loc Cert.KernelMlpIdeal.main_v3_2) = v2 c
          ∧ r.2.mem ((c.tc : Thread Cert.KernelMlpIdeal.nD Cert.KernelMlpIdeal.τ).loc Cert.KernelMlpIdeal.main_v3_3) = v3 c
          ∧ r.2.mem ((c.tc : Thread Cert.KernelMlpIdeal.nD Cert.KernelMlpIdeal.τ).loc Cert.KernelMlpIdeal.main_v3_4) = v4 c
          ∧ r.2.mem ((c.tc : Thread Cert.KernelMlpIdeal.nD Cert.KernelMlpIdeal.τ).loc Cert.KernelMlpIdeal.main_v3_5) = v5 c
          ∧ r.2.mem ((c.tc : Thread Cert.KernelMlpIdeal.nD Cert.KernelMlpIdeal.τ).loc Cert.KernelMlpIdeal.main_v3_6) = v6 c
          ∧ r.2.mem ((c.tc : Thread Cert.KernelMlpIdeal.nD Cert.KernelMlpIdeal.τ).loc Cert.KernelMlpIdeal.main_v3_7) = v7 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v98) = v0 c
          ∧ r.2.mem ((c.tc : Thread Cert.ReferenceMlpIdeal.nD Cert.ReferenceMlpIdeal.τ).loc Cert.ReferenceMlpIdeal.main_v99) = v1 c
          ∧ r.2.mem ((c.tc : Thread Cert.ReferenceMlpIdeal.nD Cert.ReferenceMlpIdeal.τ).loc Cert.ReferenceMlpIdeal.main_v100) = v2 c
          ∧ r.2.mem ((c.tc : Thread Cert.ReferenceMlpIdeal.nD Cert.ReferenceMlpIdeal.τ).loc Cert.ReferenceMlpIdeal.main_v101) = v3 c
          ∧ r.2.mem ((c.tc : Thread Cert.ReferenceMlpIdeal.nD Cert.ReferenceMlpIdeal.τ).loc Cert.ReferenceMlpIdeal.main_v102) = v4 c
          ∧ r.2.mem ((c.tc : Thread Cert.ReferenceMlpIdeal.nD Cert.ReferenceMlpIdeal.τ).loc Cert.ReferenceMlpIdeal.main_v103) = v5 c
          ∧ r.2.mem ((c.tc : Thread Cert.ReferenceMlpIdeal.nD Cert.ReferenceMlpIdeal.τ).loc Cert.ReferenceMlpIdeal.main_v57) = v6 c
          ∧ r.2.mem ((c.tc : Thread Cert.ReferenceMlpIdeal.nD Cert.ReferenceMlpIdeal.τ).loc Cert.ReferenceMlpIdeal.main_v81) = v7 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelIn : Cert.KernelIn.Facts) (hKernelInIdeal : Cert.KernelInIdeal.Facts) (hReferenceInIdeal : Cert.ReferenceInIdeal.Facts) (hKernelMlp : Cert.KernelMlp.Facts) (hKernelMlpIdeal : Cert.KernelMlpIdeal.Facts) (hReferenceMlpIdeal : Cert.ReferenceMlpIdeal.Facts),
    quiescent_Kernel (hKernel := hKernel)
    ∧ quiescent_KernelIdeal (hKernelIdeal := hKernelIdeal)
    ∧ quiescent_ReferenceIdeal (hReferenceIdeal := hReferenceIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ preserves_Kernel_KernelIdeal
    ∧ algebraic_KernelIdeal_ReferenceIdeal (hKernelIdeal := hKernelIdeal) (hReferenceIdeal := hReferenceIdeal)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelIn_KernelInIdeal
    ∧ algebraic_KernelInIdeal_ReferenceInIdeal (hKernelInIdeal := hKernelInIdeal) (hReferenceInIdeal := hReferenceInIdeal)
    ∧ preserves_KernelMlp_KernelMlpIdeal
    ∧ algebraic_KernelMlpIdeal_ReferenceMlpIdeal (hKernelMlpIdeal := hKernelMlpIdeal) (hReferenceMlpIdeal := hReferenceMlpIdeal)
-- ==== Kernel.lean ====
abbrev S4096x1024 : Shape := ⟨2, ![4096, 1024]⟩
abbrev S4096x512 : Shape := ⟨2, ![4096, 512]⟩
abbrev S4096x2048 : Shape := ⟨2, ![4096, 2048]⟩
abbrev S1x2048 : Shape := ⟨2, ![1, 2048]⟩
abbrev S512x1024 : Shape := ⟨2, ![512, 1024]⟩
abbrev S1024x1024 : Shape := ⟨2, ![1024, 1024]⟩
abbrev S512x4096 : Shape := ⟨2, ![512, 4096]⟩
abbrev S512x512 : Shape := ⟨2, ![512, 512]⟩
abbrev S512x2048 : Shape := ⟨2, ![512, 2048]⟩
abbrev S1x1024 : Shape := ⟨2, ![1, 1024]⟩
abbrev S1024 : Shape := ⟨1, ![1024]⟩

abbrev nBuf : Space → Nat
  | .hbm => 27
  | .vmem => 48
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x2048, .f32⟩
  | .hbm, ⟨4, _⟩ => ⟨S1x2048, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S512x4096, .f32⟩
  | .hbm, ⟨10, _⟩ => ⟨S512x4096, .bf16⟩
  | .hbm, ⟨11, _⟩ => ⟨S4096x1024, .bf16⟩
  | .hbm, ⟨12, _⟩ => ⟨S4096x2048, .bf16⟩
  | .hbm, ⟨13, _⟩ => ⟨S512x1024, .bf16⟩
  | .hbm, ⟨14, _⟩ => ⟨S1024x1024, .bf16⟩
  | .hbm, ⟨15, _⟩ => ⟨S1024x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x2048, .bf16⟩
  | .hbm, ⟨21, _⟩ => ⟨S512x4096, .bf16⟩
  | .hbm, ⟨22, _⟩ => ⟨S4096x1024, .bf16⟩
  | .hbm, ⟨23, _⟩ => ⟨S1x2048, .f32⟩
  | .hbm, ⟨24, _⟩ => ⟨S512x1024, .f32⟩
  | .hbm, ⟨25, _⟩ => ⟨S1024x1024, .f32⟩
  | .hbm, ⟨26, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x2048, .bf16⟩
  | .local _ .vmem, ⟨27, _⟩ => ⟨S512x2048, .bf16⟩
  | .local _ .vmem, ⟨28, _⟩ => ⟨S1x2048, .f32⟩
  | .local _ .vmem, ⟨29, _⟩ => ⟨S512x1024, .bf16⟩
  | .local _ .vmem, ⟨30, _⟩ => ⟨S512x1024, .bf16⟩
  | .local _ .vmem, ⟨31, _⟩ => ⟨S512x512, .bf16⟩
  | .local _ .vmem, ⟨32, _⟩ => ⟨S512x512, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S1024x1024, .bf16⟩
  | .local _ .vmem, ⟨37, _⟩ => ⟨S1024x1024, .bf16⟩
  | .local _ .vmem, ⟨38, _⟩ => ⟨S512x2048, .bf16⟩
  | .local _ .vmem, ⟨39, _⟩ => ⟨S512x2048, .bf16⟩
  | .local _ .vmem, ⟨40, _⟩ => ⟨S512x512, .bf16⟩
  | .local _ .vmem, ⟨41, _⟩ => ⟨S512x512, .bf16⟩
  | .local _ .vmem, ⟨42, _⟩ => ⟨S512x1024, .bf16⟩
  | .local _ .vmem, ⟨43, _⟩ => ⟨S512x1024, .bf16⟩
  | .local _ .vmem, ⟨44, _⟩ => ⟨S1x2048, .f32⟩
  | .local _ .vmem, ⟨45, _⟩ => ⟨S512x1024, .f32⟩
  | .local _ .vmem, ⟨46, _⟩ => ⟨S1024x1024, .f32⟩
  | .local _ .vmem, ⟨47, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg15_0 : Ref sig .tc := ⟨.vmem, 45, rfl⟩
abbrev cc1_stg16_0 : Ref sig .tc := ⟨.vmem, 46, rfl⟩
abbrev cc1_stg17_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem9_0 : DmaSem sig := 36
abbrev cc1_sem10_0 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem15_0 : DmaSem sig := 45
abbrev cc1_sem16_0 : DmaSem sig := 46
abbrev cc1_sem17_0 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S512x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1024x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1024x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]
-- ==== ReferenceIdeal.lean ====
abbrev S4096x1024 : Shape := ⟨2, ![4096, 1024]⟩
abbrev S4096x512 : Shape := ⟨2, ![4096, 512]⟩
abbrev S4096x2048 : Shape := ⟨2, ![4096, 2048]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S1024x512 : Shape := ⟨2, ![1024, 512]⟩
abbrev S512x4096 : Shape := ⟨2, ![512, 4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x2048, .f32⟩
  | .hbm, ⟨4, _⟩ => ⟨S1x2048, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1024x1024, .f32⟩
  | .hbm, ⟨50, _⟩ => ⟨S1024x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1x2048, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1x2048, .f32⟩
  | .hbm, ⟨68, _⟩ => ⟨S1x2048, .f32⟩
  | .hbm, ⟨69, _⟩ => ⟨S4096x2048, .f32⟩
  | .hbm, ⟨70, _⟩ => ⟨S1024x1024, .f32⟩
  | .hbm, ⟨71, _⟩ => ⟨S1024x1024, .f32⟩
  | .hbm, ⟨72, _⟩ => ⟨S4096x1024, .f32⟩
  | .hbm, ⟨73, _⟩ => ⟨S1024x512, .f32⟩
  | .hbm, ⟨74, _⟩ => ⟨S512x1024, .f32⟩
  | .hbm, ⟨75, _⟩ => ⟨S4096x512, .f32⟩
  | .hbm, ⟨76, _⟩ => ⟨S4096x2048, .bf16⟩
  | .hbm, ⟨77, _⟩ => ⟨S512x4096, .f32⟩
  | .hbm, ⟨78, _⟩ => ⟨S512x4096, .bf16⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== KernelDown.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S4096x4096 : Shape := ⟨2, ![4096, 4096]⟩
abbrev S4096x1024 : Shape := ⟨2, ![4096, 1024]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S1024x4096, .f32⟩
  | .hbm, ⟨5, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelUp.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S4096x4096 : Shape := ⟨2, ![4096, 4096]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelIn.lean ====
abbrev S512x4096 : Shape := ⟨2, ![512, 4096]⟩
abbrev S4096x256 : Shape := ⟨2, ![4096, 256]⟩
abbrev S4096x3072 : Shape := ⟨2, ![4096, 3072]⟩
abbrev S4096x2048 : Shape := ⟨2, ![4096, 2048]⟩
abbrev S4096x1024 : Shape := ⟨2, ![4096, 1024]⟩
abbrev S5888x1024 : Shape := ⟨2, ![5888, 1024]⟩
abbrev S256x4096 : Shape := ⟨2, ![256, 4096]⟩
abbrev S256x1024 : Shape := ⟨2, ![256, 1024]⟩

abbrev nBuf : Space → Nat
  | .hbm => 7
  | .vmem => 13
  | .smem => 0
  | _ => 0

abbrev bufTy : (tb : Table) → Fin (tcTables nBuf tb) → BufTy
  | .hbm, ⟨0, _⟩ => ⟨S512x4096, .bf16⟩
  | .hbm, ⟨1, _⟩ => ⟨S4096x256, .bf16⟩
  | .hbm, ⟨2, _⟩ => ⟨S4096x3072, .bf16⟩
  | .hbm, ⟨3, _⟩ => ⟨S4096x2048, .bf16⟩
  | .hbm, ⟨4, _⟩ => ⟨S4096x1024, .bf16⟩
  | .hbm, ⟨5, _⟩ => ⟨S5888x1024, .f32⟩
  | .hbm, ⟨6, _⟩ => ⟨S5888x1024, .bf16⟩
  | .local _ .vmem, ⟨0, _⟩ => ⟨S256x4096, .bf16⟩
  | .local _ .vmem, ⟨1, _⟩ => ⟨S256x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![23], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c3_i32_3 : BitVec 32 := 3#32
  let v10 : BitVec 1 := Scalar.cmpi .sge arg0 c3_i32_3
  let c15_i32 : BitVec 32 := 15#32
  let v11 : BitVec 1 := Scalar.cmpi .slt arg0 c15_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c15_i32_5 : BitVec 32 := 15#32
  let v15 : BitVec 1 := Scalar.cmpi .sge arg0 c15_i32_5
  let c23_i32 : BitVec 32 := 23#32
  let v16 : BitVec 1 := Scalar.cmpi .slt arg0 c23_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInIdeal.lean ====
abbrev S512x4096 : Shape := ⟨2, ![512, 4096]⟩
abbrev S4096x256 : Shape := ⟨2, ![4096, 256]⟩
abbrev S4096x3072 : Shape := ⟨2, ![4096, 3072]⟩
abbrev S4096x2048 : Shape := ⟨2, ![4096, 2048]⟩
abbrev S4096x1024 : Shape := ⟨2, ![4096, 1024]⟩
abbrev S4096x512 : Shape := ⟨2, ![4096, 512]⟩
abbrev S4096x5888 : Shape := ⟨2, ![4096, 5888]⟩
abbrev S5888x1024 : Shape := ⟨2, ![5888, 1024]⟩
abbrev S1024x5888 : Shape := ⟨2, ![1024, 5888]⟩

abbrev nBuf : Space → Nat
  | .hbm => 14
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x256, .bf16⟩
  | .hbm, ⟨2, _⟩ => ⟨S4096x3072, .bf16⟩
  | .hbm, ⟨3, _⟩ => ⟨S4096x2048, .bf16⟩
  | .hbm, ⟨4, _⟩ => ⟨S4096x1024, .bf16⟩
  | .hbm, ⟨5, _⟩ => ⟨S4096x512, .bf16⟩
  | .hbm, ⟨6, _⟩ => ⟨S4096x5888, .bf16⟩
  | .hbm, ⟨7, _⟩ => ⟨S4096x1024, .f32⟩
  | .hbm, ⟨8, _⟩ => ⟨S4096x5888, .f32⟩
  | .hbm, ⟨9, _⟩ => ⟨S5888x1024, .f32⟩
  | .hbm, ⟨10, _⟩ => ⟨S1024x5888, .f32⟩
  | .hbm, ⟨11, _⟩ => ⟨S5888x1024, .f32⟩
  | .hbm, ⟨12, _⟩ => ⟨S5888x1024, .f32⟩
  | .hbm, ⟨13, _⟩ => ⟨S5888x1024, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelMlp.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1x128 : Shape := ⟨2, ![1, 128]⟩
abbrev S256x1024 : Shape := ⟨2, ![256, 1024]⟩
abbrev S256x4096 : Shape := ⟨2, ![256, 4096]⟩
abbrev S4 : Shape := ⟨1, ![4]⟩
abbrev S1 : Shape := ⟨1, ![1]⟩
abbrev S_ : Shape := ⟨0, ![]⟩
abbrev S1024x1024 : Shape := ⟨2, ![1024, 1024]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 17
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x4096, .bf16⟩
  | .hbm, ⟨11, _⟩ => ⟨S4096x1024, .bf16⟩
  | .hbm, ⟨12, _⟩ => ⟨S4096x4096, .bf16⟩
  | .hbm, ⟨13, _⟩ => ⟨S4096x1024, .f32⟩
  | .hbm, ⟨14, _⟩ => ⟨S1x128, .f32⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S256x4096, .bf16⟩
  | .local _ .vmem, ⟨9, _⟩ => ⟨S256x4096, .bf16⟩
  | .local _ .vmem, ⟨10, _⟩ => ⟨S256x1024, .bf16⟩
  | .local _ .vmem, ⟨11, _⟩ => ⟨S256x1024, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .f32⟩
  | .local _ .vmem, ⟨15, _⟩ => ⟨S256x1024, .f32⟩
  | .local _ .vmem, ⟨16, _⟩ => ⟨S1x128, .f32⟩
  | .local _ .vmem, ⟨17, _⟩ => ⟨S1x1024, .f32⟩
  | .local _ .vmem, ⟨18, _⟩ => ⟨S1x1024, .f32⟩
  | .local _ .vmem, ⟨19, _⟩ => ⟨S4096x1024, .bf16⟩
  | .local _ .vmem, ⟨20, _⟩ => ⟨S4096x1024, .bf16⟩
  | .local _ .vmem, ⟨21, _⟩ => ⟨S256x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch2 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceMlpIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1x128 : Shape := ⟨2, ![1, 128]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S4096x1024, .f32⟩
  | 4 => ⟨S1024x4096, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x4096, .f32⟩
  | 26 => ⟨S_, .f32⟩
  | 27 => ⟨S4096x4096, .f32⟩
  | 28 => ⟨S4096x4096, .f32⟩
  | 29 => ⟨S_, .f32⟩
  | 30 => ⟨S4096x4096, .f32⟩
  | 31 => ⟨S4096x4096, .i1⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x1024, .f32⟩
  | 39 => ⟨S4096x1024, .f32⟩
  | 40 => ⟨S4096x1024, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096, .f32⟩
  | 66 => ⟨S_, .f32⟩
  | 67 => ⟨S4096, .f32⟩
  | 68 => ⟨S4096, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S4096, .f32⟩
  | 77 => ⟨S_, .f32⟩
  | 78 => ⟨S4096, .f32⟩
  | 79 => ⟨S4096, .f32⟩
  | 80 => ⟨S4096x1024, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S4096x1024, .f32⟩
  | 122 => ⟨S4096x1024, .f32⟩
  | 123 => ⟨S4096x1, .f32⟩
  | 124 => ⟨S_, .f32⟩
  | 125 => ⟨S4096x1, .f32⟩
  | 126 => ⟨S4096x1, .f32⟩
  | 127 => ⟨S_, .f32⟩
  | _ => ⟨S4096x1024, .f32⟩

abbrev hbmTy0_1 (i : Nat) : BufTy := match i % 128 with
  | 0 => ⟨S4096, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .bf16⟩
  | 7 => ⟨S4096x4096, .bf16⟩
  | 8 => ⟨S4096x1024, .bf16⟩
  | 9 => ⟨S4096x4096, .bf16⟩
  | 10 => ⟨S4096x1024, .f32⟩
  | 11 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_cst_17 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_18 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_20 : Ref sig .tc := ⟨.hbm, 95, rfl⟩
abbrev main_v66 : Ref sig .tc := ⟨.hbm, 96, rfl⟩
abbrev main_v67 : Ref sig .tc := ⟨.hbm, 97, rfl⟩
abbrev main_cst_21 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_24 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]
-- ==== Proof.Model.lean ====
/- What the merge of the two branches and its gradient compute, in plain sums over the extended reals: the two
   projections, the sigmoid gates, the merged rows, the residual output, and each derivative. Every definition takes
   the number `n` of rows as a parameter, so that it says what one block of 512 rows holds as well as what the whole
   array of 4096 rows holds. -/
module

public import Idealize.ShloMosaic.Lib.Pipeline.ValueKit

@[expose] public section

set_option maxRecDepth 16384

noncomputable section

open Idealize.ShloMosaic Idealize.ShloMosaic.TcCoe Idealize.SL.Sem

namespace Cert.MergeModel

/-- An array of `a` rows and `b` columns. -/
abbrev Mat (a b : ℕ) := (⟨2, ![a, b]⟩ : Shape).Idx → EReal

/-- The product `A · B`. -/
def mul {n k p : ℕ} (A : Mat n k) (B : Mat k p) : Mat n p := fun i => ∑ l : Fin k, A (ix2 (i 0) l) * B (ix2 l (i 1))
/-- The product `A · Bᵀ`. -/
def mulT {n k p : ℕ} (A : Mat n k) (B : Mat p k) : Mat n p := fun i => ∑ l : Fin k, A (ix2 (i 0) l) * B (ix2 (i 1) l)
/-- The product `Aᵀ · B`. -/
def tmul {n k p : ℕ} (A : Mat k n) (B : Mat k p) : Mat n p := fun i => ∑ l : Fin k, A (ix2 l (i 0)) * B (ix2 l (i 1))

/-- The logistic function. -/
def sig (z : EReal) : EReal := Ideal.div 1 (1 + Ideal.exp (0 - z))

/-- Column `j` of the first half. -/
def lo (j : Fin 1024) : Fin 2048 := ⟨j.val, by omega⟩
/-- Column `j` of the second half. -/
def hi (j : Fin 1024) : Fin 2048 := ⟨1024 + j.val, by omega⟩

/-- The attention branch's gate: the first 1024 columns of the gate inputs, plus their bias. -/
def gateA {n : ℕ} (G : Mat n 2048) (b : Mat 1 2048) : Mat n 1024 := fun i =>
  sig (G (ix2 (i 0) (lo (i 1))) + b (ix2 0 (lo (i 1))))
/-- The retention branch's gate: the last 1024 columns of the gate inputs, plus their bias. -/
def gateR {n : ℕ} (G : Mat n 2048) (b : Mat 1 2048) : Mat n 1024 := fun i =>
  sig (G (ix2 (i 0) (hi (i 1))) + b (ix2 0 (hi (i 1))))

/-- The merged rows: each branch's projection times its gate. -/
def merge {n : ℕ} (G : Mat n 2048) (b : Mat 1 2048) (ya yr : Mat n 1024) : Mat n 1024 := fun i =>
  gateA G b i * ya i + gateR G b i * yr i

/-- The residual output. -/
def withInput {n : ℕ} (x mg : Mat n 1024) (wo : Mat 1024 1024) : Mat n 1024 := fun i => x i + mul mg wo i

/-- The derivative by the attention branch's projection. -/
def dya {n : ℕ} (G : Mat n 2048) (b : Mat 1 2048) (dm : Mat n 1024) : Mat n 1024 := fun i => dm i * gateA G b i
/-- The derivative by the retention branch's projection. -/
def dyr {n : ℕ} (G : Mat n 2048) (b : Mat 1 2048) (dm : Mat n 1024) : Mat n 1024 := fun i => dm i * gateR G b i
/-- The derivative by the attention gate's input. -/
def dza {n : ℕ} (G : Mat n 2048) (b : Mat 1 2048) (dm ya : Mat n 1024) : Mat n 1024 := fun i =>
  dm i * ya i * gateA G b i * (1 - gateA G b i)
/-- The derivative by the retention gate's input. -/
def dzr {n : ℕ} (G : Mat n 2048) (b : Mat 1 2048) (dm yr : Mat n 1024) : Mat n 1024 := fun i =>
  dm i * yr i * gateR G b i * (1 - gateR G b i)

/-- Column `j` of two halves side by side: the first half's, or the second half's. -/
def joined (A B : Fin 1024 → EReal) (j : Fin 2048) : EReal :=
  if h : j.val < 1024 then A ⟨j.val, h⟩ else B ⟨j.val - 1024, by omega⟩
/-- Two arrays of 1024 columns side by side. -/
def beside {n : ℕ} (A B : Mat n 1024) : Mat n 2048 := fun i =>
  joined (fun j => A (ix2 (i 0) j)) (fun j => B (ix2 (i 0) j)) (i 1)

/-- The sum of each column. -/
def colSum {n p : ℕ} (A : Mat n p) : Mat 1 p := fun i => ∑ s : Fin n, A (ix2 s (i 1))

/-- Row `s` of block `t` among 4096 rows in blocks of 512. -/
def row (t : Fin 8) (s : Fin 512) : Fin 4096 := ⟨t.val * 512 + s.val, by omega⟩
/-- Block `t` of the rows of `A`. -/
def rows {p : ℕ} (t : Fin 8) (A : Mat 4096 p) : Mat 512 p := fun i => A (ix2 (row t (i 0)) (i 1))
/-- Block `t` of the columns of `A`. -/
def cols {p : ℕ} (t : Fin 8) (A : Mat p 4096) : Mat p 512 := fun i => A (ix2 (i 0) (row t (i 1)))

/-- A sum over the rows, block by block. -/
theorem sum_rows (f : Fin 4096 → EReal) : ∑ t : Fin 8, ∑ s : Fin 512, f (row t s) = ∑ r : Fin 4096, f r :=
  (Fin.sum_univ_tiles 8 512 rfl f).symm

/-- The transposed product, block by block of the contracted rows. -/
theorem tmul_rows {n p : ℕ} (A : Mat 4096 n) (B : Mat 4096 p) (j) : ∑ t : Fin 8, tmul (rows t A) (rows t B) j = tmul A B j :=
  sum_rows fun r => A (ix2 r (j 0)) * B (ix2 r (j 1))

/-- The column sums, block by block. -/
theorem colSum_rows {p : ℕ} (A : Mat 4096 p) (j) : ∑ t : Fin 8, colSum (rows t A) j = colSum A j :=
  sum_rows fun r => A (ix2 r (j 1))

end Cert.MergeModel

end
-- ==== Proof.Down.lean ====
/- The gradient of the channel mixer's second weights, `hdnᵀ · dh2`: the call's result and the reference's are this
   product. -/
module

public import proofs.«01_k».proof.Defs
public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Model
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelDownIdeal.Result

open Cert.KernelDownIdeal Cert.KernelDownIdeal.Gen Cert.MergeModel

variable (m : (ℓ : Loc nD τ sig) → Buf (Elt Ideal) ℓ) (c : Dev nD)

/-- The block every window holds at point `t`: block `t` of the hidden columns, and of the result's rows. -/
theorem idx : ∀ t : Fin cfg0.N, win0_0.index t = ![0, t.val] ∧ win0_1.index t = ![0, 0] ∧ win0_2.index t = ![t.val, 0] :=
  (by decide +kernel : ∀ t : Fin grid0.N, _)

/-- The array the call leaves is the product. -/
theorem product : (dats m 0 c).arrAt 2 cfg0.N
    = tmul (n := 4096) (k := 4096) (p := 1024) (V m c main_arg0) (V m c main_arg1) := by
  refine (dats m 0 c).arrAt_eq_of_covers 2 _ (by decide +kernel) fun t _ y => ?_
  blk_simp
  rw [after0_2]; frame_out
  pointwise [k0_pay1, tmul]
  blk_point [iblk, idx t]

end Cert.KernelDownIdeal.Result

namespace Cert.ReferenceDownIdeal.Result

open Cert.ReferenceDownIdeal Cert.ReferenceDownIdeal.Gen Cert.ReferenceDownIdeal.Read Cert.MergeModel

variable (h : Mat 4096 4096) (d : Mat 4096 1024)

/-- The reference's result is the product. -/
theorem product : val_main_v3 (F := Ideal) h d = tmul h d := by
  funext i
  pointwise [val_main_v3, val_main_v2, val_main_v1, val_main_v0, tmul]
  exact Finset.sum_congr rfl fun l _ => mul_comm _ _

end Cert.ReferenceDownIdeal.Result

namespace Cert.Down

set_option maxHeartbeats 1600000 in
/-- The reference ends with its arguments unchanged. -/
theorem reference : Cert.quiescent_ReferenceDownIdeal (hReferenceDownIdeal := Cert.ReferenceDownIdeal.Gen.facts) := by
  intro m ρ _
  hlo_run
  · exact fun _ => by simp
  · exact sem_eq_zero_of_no_sems (sig := Cert.ReferenceDownIdeal.sig) rfl _

/-- The results are equal. -/
theorem equal : Cert.algebraic_KernelDownIdeal_ReferenceDownIdeal (hKernelDownIdeal := Cert.KernelDownIdeal.Gen.facts)
    (hReferenceDownIdeal := Cert.ReferenceDownIdeal.Gen.facts) := by
  pair_intro
  · run_from Cert.KernelDownIdeal.Value.run_blocks m g
  · run_from Cert.ReferenceDownIdeal.Value.run m' g'
    exact (Cert.ReferenceDownIdeal.Read.val_main_v3_eq _ _).trans
      ((ReferenceDownIdeal.Result.product _ _).trans (KernelDownIdeal.Result.product m c).symm)

end Cert.Down

end
-- ==== Proof.Up.lean ====
/- The gradient of the channel mixer's first weights, transposed: `duᵀ · xn`: the call's result and the reference's are this
   product. -/
module

public import proofs.«01_k».proof.Defs
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Model
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelUpIdeal.Result

open Cert.KernelUpIdeal Cert.KernelUpIdeal.Gen Cert.MergeModel

variable (m : (ℓ : Loc nD τ sig) → Buf (Elt Ideal) ℓ) (c : Dev nD)

/-- The block every window holds at point `t`: block `t` of the hidden columns, and of the result's rows. -/
theorem idx : ∀ t : Fin cfg0.N, win0_0.index t = ![0, t.val] ∧ win0_1.index t = ![0, 0] ∧ win0_2.index t = ![t.val, 0] :=
  (by decide +kernel : ∀ t : Fin grid0.N, _)

/-- The array the call leaves is the product. -/
theorem product : (dats m 0 c).arrAt 2 cfg0.N
    = tmul (n := 4096) (k := 4096) (p := 1024) (V m c main_arg0) (V m c main_arg1) := by
  refine (dats m 0 c).arrAt_eq_of_covers 2 _ (by decide +kernel) fun t _ y => ?_
  blk_simp
  rw [after0_2]; frame_out
  pointwise [k0_pay1, tmul]
  blk_point [iblk, idx t]

end Cert.KernelUpIdeal.Result

namespace Cert.ReferenceUpIdeal.Result

open Cert.ReferenceUpIdeal Cert.ReferenceUpIdeal.Gen Cert.ReferenceUpIdeal.Read Cert.MergeModel

variable (h : Mat 4096 4096) (d : Mat 4096 1024)

/-- The reference's result is the product. -/
theorem product : val_main_v4 (F := Ideal) h d = tmul h d := by
  funext i
  pointwise [val_main_v4, val_main_v3, val_main_v2, val_main_v1, val_main_v0, tmul]

end Cert.ReferenceUpIdeal.Result

namespace Cert.Up

set_option maxHeartbeats 1600000 in
/-- The reference ends with its arguments unchanged. -/
theorem reference : Cert.quiescent_ReferenceUpIdeal (hReferenceUpIdeal := Cert.ReferenceUpIdeal.Gen.facts) := by
  intro m ρ _
  hlo_run
  · exact fun _ => by simp
  · exact sem_eq_zero_of_no_sems (sig := Cert.ReferenceUpIdeal.sig) rfl _

/-- The results are equal. -/
theorem equal : Cert.algebraic_KernelUpIdeal_ReferenceUpIdeal (hKernelUpIdeal := Cert.KernelUpIdeal.Gen.facts)
    (hReferenceUpIdeal := Cert.ReferenceUpIdeal.Gen.facts) := by
  pair_intro
  · run_from Cert.KernelUpIdeal.Value.run_blocks m g
  · run_from Cert.ReferenceUpIdeal.Value.run m' g'
    exact (Cert.ReferenceUpIdeal.Read.val_main_v4_eq _ _).trans
      ((ReferenceUpIdeal.Result.product _ _).trans (KernelUpIdeal.Result.product m c).symm)

end Cert.Up

end
-- ==== Proof.In.lean ====
/- The gradient of the mixer's input weights: the call's two results are one product, its columns' gradients side by side,
   transposed, times the input's rows. -/
module

public import proofs.«01_k».proof.Defs
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Model
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.MergeModel

/-- The four gradients side by side, the first one held transposed: 512, 256, 3072 and 2048 columns. -/
def columns (q : Mat 512 4096) (k : Mat 4096 256) (r : Mat 4096 3072) (g : Mat 4096 2048) : Mat 4096 5888 := fun i =>
  if h : (i 1).val < 512 then q (ix2 ⟨(i 1).val, h⟩ (i 0))
  else if h' : (i 1).val - 512 < 256 then k (ix2 (i 0) ⟨(i 1).val - 512, h'⟩)
  else if h'' : (i 1).val - 768 < 3072 then r (ix2 (i 0) ⟨(i 1).val - 768, h''⟩)
  else g (ix2 (i 0) ⟨(i 1).val - 3840, by have : (i 1).val < 5888 := (i 1).isLt; omega⟩)

variable (q : Mat 512 4096) (k : Mat 4096 256) (r : Mat 4096 3072) (g : Mat 4096 2048) (l : Fin 4096) (j : Fin 5888)

/-- A column of the first gradient. -/
theorem columns_q (h : j.val < 512) : columns q k r g (ix2 l j) = q (ix2 ⟨j.val, h⟩ l) := dif_pos h

/-- A column of the second gradient. -/
theorem columns_k (h : 512 ≤ j.val) (h' : j.val - 512 < 256) :
    columns q k r g (ix2 l j) = k (ix2 l ⟨j.val - 512, h'⟩) :=
  (dif_neg (by show ¬ j.val < 512; omega)).trans (dif_pos h')

/-- A column of the third gradient. -/
theorem columns_r (h : 768 ≤ j.val) (h' : j.val - 768 < 3072) :
    columns q k r g (ix2 l j) = r (ix2 l ⟨j.val - 768, h'⟩) :=
  (dif_neg (by show ¬ j.val < 512; omega)).trans ((dif_neg (by show ¬ j.val - 512 < 256; omega)).trans (dif_pos h'))

/-- A column of the fourth gradient. -/
theorem columns_g (h : 3840 ≤ j.val) :
    columns q k r g (ix2 l j) = g (ix2 l ⟨j.val - 3840, by have := j.isLt; omega⟩) :=
  (dif_neg (by show ¬ j.val < 512; omega)).trans ((dif_neg (by show ¬ j.val - 512 < 256; omega)).trans
    (dif_neg (by show ¬ j.val - 768 < 3072; omega)))

variable (x : Mat 4096 1024) (i : (⟨2, ![5888, 1024]⟩ : Shape).Idx)

/-- A row of the product in the first gradient's range. -/
theorem rows_q (h : (i 0).val < 512) :
    tmul (columns q k r g) x i = ∑ l : Fin 4096, q (ix2 ⟨(i 0).val, h⟩ l) * x (ix2 l (i 1)) :=
  Finset.sum_congr rfl fun l _ => congrArg (· * _) (columns_q q k r g l (i 0) h)

/-- A row of the product in the second gradient's range. -/
theorem rows_k (h : 512 ≤ (i 0).val) (h' : (i 0).val - 512 < 256) :
    tmul (columns q k r g) x i = ∑ l : Fin 4096, k (ix2 l ⟨(i 0).val - 512, h'⟩) * x (ix2 l (i 1)) :=
  Finset.sum_congr rfl fun l _ => congrArg (· * _) (columns_k q k r g l (i 0) h h')

/-- A row of the product in the third gradient's range. -/
theorem rows_r (h : 768 ≤ (i 0).val) (h' : (i 0).val - 768 < 3072) :
    tmul (columns q k r g) x i = ∑ l : Fin 4096, r (ix2 l ⟨(i 0).val - 768, h'⟩) * x (ix2 l (i 1)) :=
  Finset.sum_congr rfl fun l _ => congrArg (· * _) (columns_r q k r g l (i 0) h h')

/-- A row of the product in the fourth gradient's range. -/
theorem rows_g (h : 3840 ≤ (i 0).val) (h' : (i 0).val - 3840 < 2048) :
    tmul (columns q k r g) x i = ∑ l : Fin 4096, g (ix2 l ⟨(i 0).val - 3840, h'⟩) * x (ix2 l (i 1)) :=
  Finset.sum_congr rfl fun l _ => congrArg (· * _) (columns_g q k r g l (i 0) h)

end Cert.MergeModel

namespace Cert.KernelInIdeal.Result

open Cert.KernelInIdeal Cert.KernelInIdeal.Gen Cert.MergeModel

variable (m : (ℓ : Loc nD τ sig) → Buf (Elt Ideal) ℓ) (c : Dev nD)

/-- The block of the four gradients a point reads: of each, the block its rows of the result come from. -/
theorem idx : ∀ t : Fin cfg0.N, (t.val < 2 → win0_0.index t = ![t.val, 0]) ∧ win0_1.index t = ![0, 0]
    ∧ (3 ≤ t.val ∧ t.val ≤ 14 → win0_2.index t = ![0, t.val - 3]) ∧ (15 ≤ t.val → win0_3.index t = ![0, t.val - 15])
    ∧ win0_4.index t = ![0, 0] ∧ win0_5.index t = ![t.val, 0] ∧ win0_6.index t = ![t.val, 0] :=
  (by decide +kernel : ∀ t : Fin grid0.N, _)

/-- The first array the call leaves is the product. -/
theorem product5 : (dats m 0 c).arrAt 5 cfg0.N
    = tmul (columns (V m c main_arg0) (V m c main_arg1) (V m c main_arg2) (V m c main_arg3)) (V m c main_arg4) := by
  refine (dats m 0 c).arrAt_eq_of_covers 5 _ (by decide +kernel) fun t _ y => ?_
  blk_simp
  rw [after0_5]
  have ht : t.val < 23 := t.isLt
  have hy : (y 0).val < 256 := (y 0).isLt
  obtain ⟨i0, i1, i2, i3, i4, i5, i6⟩ := idx t
  have e : (((View.whole main_v0_0).slice (win0_5.rect t)).emb y 0).val = 256 * t.val + (y 0).val := by
    blk_simp
    rw [congrFun i5 0]
    show t.val * 256 + _ = _
    omega
  rcases (by omega : t.val < 2 ∨ t.val = 2 ∨ (3 ≤ t.val ∧ t.val ≤ 14) ∨ 15 ≤ t.val) with h | h | h | h
  · rw [outsAt0_A m c t h (by omega) (by omega) (by omega)]; frame_out
    refine Eq.trans ?_ (rows_q _ _ _ _ _ _ (by omega)).symm
    pointwise [k0_pay1]
    blk_point [iblk, i0 h, i4, i5]
  · rw [outsAt0_B m c t (by omega) (by omega) (by omega) (by omega)]; frame_out
    refine Eq.trans ?_ (rows_k _ _ _ _ _ _ (by omega) (by omega)).symm
    pointwise [k0_pay3]
    blk_point [iblk, i1, i4, i5]
  · rw [outsAt0_C m c t (by omega) (by omega) (by omega) (by omega)]; frame_out
    refine Eq.trans ?_ (rows_r _ _ _ _ _ _ (by omega) (by omega)).symm
    pointwise [k0_pay5]
    blk_point [iblk, i2 h, i4, i5]
  · rw [outsAt0_D m c t (by omega) (by omega) (by omega) (by omega)]; frame_out
    refine Eq.trans ?_ (rows_g _ _ _ _ _ _ (by omega) (by omega)).symm
    pointwise [k0_pay7]
    blk_point [iblk, i3 h, i4, i5]

/-- The second array the call leaves is the product. -/
theorem product6 : (dats m 0 c).arrAt 6 cfg0.N
    = tmul (columns (V m c main_arg0) (V m c main_arg1) (V m c main_arg2) (V m c main_arg3)) (V m c main_arg4) := by
  refine (dats m 0 c).arrAt_eq_of_covers 6 _ (by decide +kernel) fun t _ y => ?_
  blk_simp
  rw [after0_6]
  have ht : t.val < 23 := t.isLt
  have hy : (y 0).val < 256 := (y 0).isLt
  obtain ⟨i0, i1, i2, i3, i4, i5, i6⟩ := idx t
  have e : (((View.whole main_v0_1).slice (win0_6.rect t)).emb y 0).val = 256 * t.val + (y 0).val := by
    blk_simp
    rw [congrFun i6 0]
    show t.val * 256 + _ = _
    omega
  rcases (by omega : t.val < 2 ∨ t.val = 2 ∨ (3 ≤ t.val ∧ t.val ≤ 14) ∨ 15 ≤ t.val) with h | h | h | h
  · rw [outsAt0_A m c t h (by omega) (by omega) (by omega)]; frame_out
    refine Eq.trans ?_ (rows_q _ _ _ _ _ _ (by omega)).symm
    pointwise [k0_pay2, k0_pay1]
    blk_point [iblk, i0 h, i4, i6]
  · rw [outsAt0_B m c t (by omega) (by omega) (by omega) (by omega)]; frame_out
    refine Eq.trans ?_ (rows_k _ _ _ _ _ _ (by omega) (by omega)).symm
    pointwise [k0_pay4, k0_pay3]
    blk_point [iblk, i1, i4, i6]
  · rw [outsAt0_C m c t (by omega) (by omega) (by omega) (by omega)]; frame_out
    refine Eq.trans ?_ (rows_r _ _ _ _ _ _ (by omega) (by omega)).symm
    pointwise [k0_pay6, k0_pay5]
    blk_point [iblk, i2 h, i4, i6]
  · rw [outsAt0_D m c t (by omega) (by omega) (by omega) (by omega)]; frame_out
    refine Eq.trans ?_ (rows_g _ _ _ _ _ _ (by omega) (by omega)).symm
    pointwise [k0_pay8, k0_pay7]
    blk_point [iblk, i3 h, i4, i6]

end Cert.KernelInIdeal.Result

namespace Cert.ReferenceInIdeal.Result

open Cert.ReferenceInIdeal Cert.ReferenceInIdeal.Gen Cert.ReferenceInIdeal.Read Cert.MergeModel

variable (q : Mat 512 4096) (k : Mat 4096 256) (r : Mat 4096 3072) (g : Mat 4096 2048) (x : Mat 4096 1024)

/-- The reference's columns. -/
theorem side : val_main_v1 (F := Ideal) q k r g = columns q k r g := by
  funext i
  pointwise [val_main_v1, val_main_v0, columns]
  simp only [Nat.sub_sub]

/-- The reference's first result is the product. -/
theorem product : val_main_v6 (F := Ideal) q k r g x = tmul (columns q k r g) x := by
  funext i
  rw [← side]
  pointwise [val_main_v6, val_main_v5, val_main_v4, val_main_v3, val_main_v2, tmul]

/-- The reference's second result is the product. -/
theorem product' : val_main_v8 (F := Ideal) q k r g x = tmul (columns q k r g) x := by
  funext i
  rw [← side]
  pointwise [val_main_v8, val_main_v7, val_main_v5, val_main_v4, val_main_v3, val_main_v2, tmul]

end Cert.ReferenceInIdeal.Result

namespace Cert.In

set_option maxHeartbeats 1600000 in
/-- The reference ends with its arguments unchanged. -/
theorem reference : Cert.quiescent_ReferenceInIdeal (hReferenceInIdeal := Cert.ReferenceInIdeal.Gen.facts) := by
  intro m ρ _
  hlo_run
  · exact fun _ => by simp
  · exact sem_eq_zero_of_no_sems (sig := Cert.ReferenceInIdeal.sig) rfl _

/-- The results are equal. -/
theorem equal : Cert.algebraic_KernelInIdeal_ReferenceInIdeal (hKernelInIdeal := Cert.KernelInIdeal.Gen.facts)
    (hReferenceInIdeal := Cert.ReferenceInIdeal.Gen.facts) := by
  pair_intro
  · run_from Cert.KernelInIdeal.Value.run_blocks m g
  · run_from Cert.ReferenceInIdeal.Value.run m' g'
    · exact (Cert.ReferenceInIdeal.Read.val_main_v6_eq _ _ _ _ _).trans
        ((ReferenceInIdeal.Result.product _ _ _ _ _).trans (KernelInIdeal.Result.product5 m c).symm)
    · exact (Cert.ReferenceInIdeal.Read.val_main_v8_eq _ _ _ _ _).trans
        ((ReferenceInIdeal.Result.product' _ _ _ _ _).trans (KernelInIdeal.Result.product6 m c).symm)

end Cert.In

end
-- ==== Proof.MlpRunA.lean ====
/- The body's run at a grid point, the first one. -/
module

public import proofs.«01_k».proof.Proof.Gen.KernelMlpIdeal.Frame.Runs

@[expose] public section

set_option maxRecDepth 16384
set_option sl_exec.dmaWindow true
set_option sl_exec.dmaWindowSet true

noncomputable section

namespace Cert.KernelMlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the body stores into each output and each scratch buffer, with the proof that it runs: the inputs' buffers, the
    weights and the semaphores are afterwards as they were, and the other buffers hold what was stored. -/
noncomputable def kernelRun0_A (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) :
    Σ' (L4 : List (View.Piece (Elt F) S256x1024 .bf16)), Σ' (L5 : List (View.Piece (Elt F) S256x4096 .bf16)), Σ' (L6 : List (View.Piece (Elt F) S256x1024 .bf16)), Σ' (L7 : List (View.Piece (Elt F) S256x4096 .bf16)), Σ' (L8 : List (View.Piece (Elt F) S256x1024 .f32)), Σ' (L9 : List (View.Piece (Elt F) S1x128 .f32)), Σ' (L10 : List (View.Piece (Elt F) S1x1024 .f32)), Σ' (L11 : List (View.Piece (Elt F) S1x1024 .f32)), Σ' (LS0 : List (View.Piece (Elt F) S4096x1024 .bf16)), Σ' (LS1 : List (View.Piece (Elt F) S4096x1024 .bf16)), { LT2 : List (View.Piece (Elt F) S256x4096 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d) ∗ (∃ d, owns (c : Thread nD τ) arg19 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg17.view.loc (c : Thread nD τ) ↦[arg17.view.set]{fullShare} arg17.view.writes (Elt F) f LS1) ∗ (∃ f, arg19.view.loc (c : Thread nD τ) ↦[arg19.view.set]{fullShare} arg19.view.writes (Elt F) f LT2) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_loss_step i arg1 harg1 arg2 harg2 arg3 harg3 arg4 harg4 (Memref.whole main_v1) (Memref.isWhole_whole _) (Memref.whole main_v2) (Memref.isWhole_whole _) arg7 harg7 arg8 harg8 arg9 harg9 arg10 harg10 arg11 harg11 arg12 harg12 arg13 harg13 arg14 harg14 arg15 harg15 cc0_scratch1 arg17 harg17 cc0_scratch3 arg19 harg19) K } := by
  refine ⟨?_, ?_, ?_, ?_, ?_, ?_, ?_, ?_, ?_, ?_, ?_, fun W K => ?run⟩
  case run =>
    simp only [cc0_mlp_loss_step_eq_skeleton]; unfold cc0_mlp_loss_step_skel
    simp only [k0_part3_eq_skeleton, k0_part1_eq_skeleton, k0_part2_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.KernelMlpIdeal.Gen

end
-- ==== Proof.MlpRunB.lean ====
/- The body's run at a grid point, any later one. -/
module

public import proofs.«01_k».proof.Proof.MlpRunA

@[expose] public section

set_option maxRecDepth 16384

noncomputable section

namespace Cert.KernelMlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- What the body stores into each output and each scratch buffer, with the proof that it runs: the inputs' buffers, the
    weights and the semaphores are afterwards as they were, and the other buffers hold what was stored. -/
noncomputable def kernelRun0_B (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) :
    Σ' (L4 : List (View.Piece (Elt F) S256x1024 .bf16)), Σ' (L5 : List (View.Piece (Elt F) S256x4096 .bf16)), Σ' (L6 : List (View.Piece (Elt F) S256x1024 .bf16)), Σ' (L7 : List (View.Piece (Elt F) S256x4096 .bf16)), Σ' (L8 : List (View.Piece (Elt F) S256x1024 .f32)), Σ' (L9 : List (View.Piece (Elt F) S1x128 .f32)), Σ' (L10 : List (View.Piece (Elt F) S1x1024 .f32)), Σ' (L11 : List (View.Piece (Elt F) S1x1024 .f32)), Σ' (LS0 : List (View.Piece (Elt F) S4096x1024 .bf16)), Σ' (LS1 : List (View.Piece (Elt F) S4096x1024 .bf16)), { LT2 : List (View.Piece (Elt F) S256x4096 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo9 ∗ owns (c : Thread nD τ) arg13 fullShare xo10 ∗ owns (c : Thread nD τ) arg14 fullShare xo11 ∗ owns (c : Thread nD τ) arg15 fullShare xs0 ∗ owns (c : Thread nD τ) arg17 fullShare xs1 ∗ (∃ d, owns (c : Thread nD τ) arg19 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ owns (c : Thread nD τ) arg15 fullShare xs0 ∗ owns (c : Thread nD τ) arg17 fullShare xs1 ∗ (∃ f, arg19.view.loc (c : Thread nD τ) ↦[arg19.view.set]{fullShare} arg19.view.writes (Elt F) f LT2) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_loss_step i arg1 harg1 arg2 harg2 arg3 harg3 arg4 harg4 (Memref.whole main_v1) (Memref.isWhole_whole _) (Memref.whole main_v2) (Memref.isWhole_whole _) arg7 harg7 arg8 harg8 arg9 harg9 arg10 harg10 arg11 harg11 arg12 harg12 arg13 harg13 arg14 harg14 arg15 harg15 cc0_scratch1 arg17 harg17 cc0_scratch3 arg19 harg19) K } := by
  refine ⟨?_, ?_, ?_, ?_, ?_, ?_, ?_, ?_, [], [], ?_, fun W K => ?run⟩
  case run =>
    simp only [cc0_mlp_loss_step_eq_skeleton]; unfold cc0_mlp_loss_step_skel
    simp only [k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%fs0, %hfs0, HS0⟩, ⟨%fs1, %hfs1, HS1⟩, ⟨%ds2, %fs2, -, HS2⟩, Hq0, Hq1, Hq2, Hq3, Hq4, Hq5, Hq6, Hq7, Hh0, Hh1, HW, Hk⟩
    obtain rfl := harg1.eq_unread hf0; obtain rfl := harg2.eq_unread hf1; obtain rfl := harg3.eq_unread hf2; obtain rfl := harg4.eq_unread hf3; obtain rfl := harg12.eq_unread hf9; obtain rfl := harg13.eq_unread hf10; obtain rfl := harg14.eq_unread hf11; obtain rfl := harg15.eq_unread hfs0; obtain rfl := harg17.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]
    · iexists _; isplitr; · ipureintro; exact harg15.read_unread _
      iexact HS0
    isplitl [HS1]
    · iexists _; isplitr; · ipureintro; exact harg17.read_unread _
      iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    isplitl [Hh1]; · iexact Hh1
    iexists _; iexact HW

end Cert.KernelMlpIdeal.Gen

end
-- ==== Proof.MlpFrame.lean ====
/- The call's run as a whole: what its outputs and its copies of the weights hold after each of the sixteen grid points,
   that the body leaves it there, and that every run of the program ends with its arguments unchanged. Case A is the
   first point, where the weights are copied and the sums start at zero; case B is every later point. -/
module

public import proofs.«01_k».proof.Proof.MlpRunB
public import Idealize.ShloMosaic.Lib.Claim

@[expose] public section

set_option maxRecDepth 16384

noncomputable section

namespace Cert.KernelMlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's stores to output 4 cover its block. -/
theorem cover0_A_4 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S256x1024.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).1 S256x1024.size (by sl_kernel_rfl) y

/-- What case A leaves in output 4's staging buffer. -/
def out0_A_4 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S256x1024 .bf16 :=
  VO0_4.read (Elt F) (VO0_4.writes (Elt F) VO0_4.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).1)

/-- Case A's stores to output 5 cover its block. -/
theorem cover0_A_5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S256x4096.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.1 S256x1024.size (by sl_kernel_rfl) y

/-- What case A leaves in output 5's staging buffer. -/
def out0_A_5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S256x4096 .bf16 :=
  VO0_5.read (Elt F) (VO0_5.writes (Elt F) VO0_5.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.1)

/-- Case A's stores to output 6 cover its block. -/
theorem cover0_A_6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S256x1024.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.1 S256x1024.size (by sl_kernel_rfl) y

/-- What case A leaves in output 6's staging buffer. -/
def out0_A_6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S256x1024 .bf16 :=
  VO0_6.read (Elt F) (VO0_6.writes (Elt F) VO0_6.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.1)

/-- Case A's stores to output 7 cover its block. -/
theorem cover0_A_7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S256x4096.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.1 S256x1024.size (by sl_kernel_rfl) y

/-- What case A leaves in output 7's staging buffer. -/
def out0_A_7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S256x4096 .bf16 :=
  VO0_7.read (Elt F) (VO0_7.writes (Elt F) VO0_7.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.1)

/-- Case A's stores to output 8 cover its block. -/
theorem cover0_A_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S256x1024.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.1 S256x1024.size (by sl_kernel_rfl) y

/-- What case A leaves in output 8's staging buffer. -/
def out0_A_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S256x1024 .f32 :=
  VO0_8.read (Elt F) (VO0_8.writes (Elt F) VO0_8.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.1)

/-- Case A's stores to output 9 cover its block. -/
theorem cover0_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S1x128.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.1 S1x128.size (by sl_kernel_rfl) y

/-- What case A leaves in output 9's staging buffer. -/
def out0_A_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S1x128 .f32 :=
  VO0_9.read (Elt F) (VO0_9.writes (Elt F) VO0_9.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.1)

/-- Case A's stores to output 10 cover its block. -/
theorem cover0_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S1x1024.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.1 S1x1024.size (by sl_kernel_rfl) y

/-- What case A leaves in output 10's staging buffer. -/
def out0_A_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S1x1024 .f32 :=
  VO0_10.read (Elt F) (VO0_10.writes (Elt F) VO0_10.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.1)

/-- Case A's stores to output 11 cover its block. -/
theorem cover0_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S1x1024.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.1 S1x1024.size (by sl_kernel_rfl) y

/-- What case A leaves in output 11's staging buffer. -/
def out0_A_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S1x1024 .f32 :=
  VO0_11.read (Elt F) (VO0_11.writes (Elt F) VO0_11.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.1)

/-- Case A's copies into scratch `arg15` cover it. -/
theorem scover0_A_0 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S4096x1024.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.2.1 S1024x1024.size (by sl_kernel_rfl) y

/-- What case A leaves in scratch `arg15`. -/
def sout0_A_0 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S4096x1024 .bf16 :=
  VS0_0.read (Elt F) (VS0_0.writes (Elt F) VS0_0.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.2.1)

/-- Case A's copies into scratch `arg17` cover it. -/
theorem scover0_A_1 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) (y : S4096x1024.Idx) :
    ∃ pc ∈ (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.2.2.1, y ∈ pc.1.set :=
  View.cover_of_tiledL (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.2.2.1 S1024x1024.size (by sl_kernel_rfl) y

/-- What case A leaves in scratch `arg17`. -/
def sout0_A_1 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : cond0_0 i) (hc1 : cond0_1 i)
    (x0 : Vec F S256x1024 .f32) (x1 : Vec F S1x1024 .f32) (x2 : Vec F S1x1024 .f32) (x3 : Vec F S256x1024 .f32) (fh0 : HbBuf0 (F := F) c hbM0_0) (fh1 : HbBuf0 (F := F) c hbM0_1) : Vec F S4096x1024 .bf16 :=
  VS0_1.read (Elt F) (VS0_1.writes (Elt F) VS0_1.junk (kernelRun0_A c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 fh0 fh1).2.2.2.2.2.2.2.2.2.1)

/-- Case B's stores to output 4 cover its block. -/
theorem cover0_B_4 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) (y : S256x1024.Idx) :
    ∃ pc ∈ (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).1, y ∈ pc.1.set :=
  View.cover_of_tiledL (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).1 S256x1024.size (by sl_kernel_rfl) y

/-- What case B leaves in output 4's staging buffer. -/
def out0_B_4 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S256x1024 .bf16 :=
  VO0_4.read (Elt F) (VO0_4.writes (Elt F) VO0_4.junk (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).1)

/-- Case B's stores to output 5 cover its block. -/
theorem cover0_B_5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) (y : S256x4096.Idx) :
    ∃ pc ∈ (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.1, y ∈ pc.1.set :=
  View.cover_of_tiledL (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.1 S256x1024.size (by sl_kernel_rfl) y

/-- What case B leaves in output 5's staging buffer. -/
def out0_B_5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S256x4096 .bf16 :=
  VO0_5.read (Elt F) (VO0_5.writes (Elt F) VO0_5.junk (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.1)

/-- Case B's stores to output 6 cover its block. -/
theorem cover0_B_6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) (y : S256x1024.Idx) :
    ∃ pc ∈ (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.1, y ∈ pc.1.set :=
  View.cover_of_tiledL (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.1 S256x1024.size (by sl_kernel_rfl) y

/-- What case B leaves in output 6's staging buffer. -/
def out0_B_6 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S256x1024 .bf16 :=
  VO0_6.read (Elt F) (VO0_6.writes (Elt F) VO0_6.junk (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.1)

/-- Case B's stores to output 7 cover its block. -/
theorem cover0_B_7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) (y : S256x4096.Idx) :
    ∃ pc ∈ (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.1, y ∈ pc.1.set :=
  View.cover_of_tiledL (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.1 S256x1024.size (by sl_kernel_rfl) y

/-- What case B leaves in output 7's staging buffer. -/
def out0_B_7 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S256x4096 .bf16 :=
  VO0_7.read (Elt F) (VO0_7.writes (Elt F) VO0_7.junk (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.1)

/-- Case B's stores to output 8 cover its block. -/
theorem cover0_B_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) (y : S256x1024.Idx) :
    ∃ pc ∈ (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.1, y ∈ pc.1.set :=
  View.cover_of_tiledL (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.1 S256x1024.size (by sl_kernel_rfl) y

/-- What case B leaves in output 8's staging buffer. -/
def out0_B_8 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S256x1024 .f32 :=
  VO0_8.read (Elt F) (VO0_8.writes (Elt F) VO0_8.junk (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.1)

/-- Case B's stores to output 9 cover its block. -/
theorem cover0_B_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) (y : S1x128.Idx) :
    ∃ pc ∈ (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.1, y ∈ pc.1.set :=
  View.cover_of_tiledL (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.1 S1x128.size (by sl_kernel_rfl) y

/-- What case B leaves in output 9's staging buffer. -/
def out0_B_9 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S1x128 .f32 :=
  VO0_9.read (Elt F) (VO0_9.writes (Elt F) VO0_9.junk (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.1)

/-- Case B's stores to output 10 cover its block. -/
theorem cover0_B_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) (y : S1x1024.Idx) :
    ∃ pc ∈ (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.2.1, y ∈ pc.1.set :=
  View.cover_of_tiledL (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.2.1 S1x1024.size (by sl_kernel_rfl) y

/-- What case B leaves in output 10's staging buffer. -/
def out0_B_10 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S1x1024 .f32 :=
  VO0_10.read (Elt F) (VO0_10.writes (Elt F) VO0_10.junk (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.2.1)

/-- Case B's stores to output 11 cover its block. -/
theorem cover0_B_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) (y : S1x1024.Idx) :
    ∃ pc ∈ (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.2.2.1, y ∈ pc.1.set :=
  View.cover_of_tiledL (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.2.2.1 S1x1024.size (by sl_kernel_rfl) y

/-- What case B leaves in output 11's staging buffer. -/
def out0_B_11 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S1x1024 .f32 :=
  VO0_11.read (Elt F) (VO0_11.writes (Elt F) VO0_11.junk (kernelRun0_B c i arg1 harg1 arg2 harg2 arg3 harg3 arg4 harg4 arg7 harg7 arg8 harg8 arg9 harg9 arg10 harg10 arg11 harg11 arg12 harg12 arg13 harg13 arg14 harg14 arg15 harg15 arg17 harg17 arg19 harg19 hc0 hc1 x0 x1 x2 x3 xo9 xo10 xo11 xs0 xs1 fh0 fh1).2.2.2.2.2.2.2.1)

/-- Case B stores nothing into scratch `arg15`: it holds what the point before left. -/
def sout0_B_0 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S4096x1024 .bf16 := xs0

/-- Case B stores nothing into scratch `arg17`: it holds what the point before left. -/
def sout0_B_1 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S256x1024 .f32) (harg4 : arg4.IsWhole) (arg7 : Memref sig .tc .vmem S256x1024 .bf16) (harg7 : arg7.IsWhole) (arg8 : Memref sig .tc .vmem S256x4096 .bf16) (harg8 : arg8.IsWhole) (arg9 : Memref sig .tc .vmem S256x1024 .bf16) (harg9 : arg9.IsWhole) (arg10 : Memref sig .tc .vmem S256x4096 .bf16) (harg10 : arg10.IsWhole) (arg11 : Memref sig .tc .vmem S256x1024 .f32) (harg11 : arg11.IsWhole) (arg12 : Memref sig .tc .vmem S1x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S4096x1024 .bf16) (harg15 : arg15.IsWhole) (arg17 : Memref sig .tc .vmem S4096x1024 .bf16) (harg17 : arg17.IsWhole) (arg19 : Memref sig .tc .vmem S256x4096 .bf16) (harg19 : arg19.IsWhole) (hc0 : ¬cond0_0 i) (hc1 : ¬cond0_1 i)
    (x0 : Vec F S256x1024 .f32) (x1 : Vec F S1x1024 .f32) (x2 : Vec F S1x1024 .f32) (x3 : Vec F S256x1024 .f32) (xo9 : Vec F S1x128 .f32) (xo10 : Vec F S1x1024 .f32) (xo11 : Vec F S1x1024 .f32) (xs0 : Vec F S4096x1024 .bf16) (xs1 : Vec F S4096x1024 .bf16) (fh0 : HbBuf0 (F := F) c hbM0_0) (fh1 : HbBuf0 (F := F) c hbM0_1) : Vec F S4096x1024 .bf16 := xs1

/-! ## What the outputs hold after each point -/

/-- What the outputs' staging buffers and the two copies of the weights hold after point `n`: at the first point what
    case A leaves, at a later one what case B leaves over what point `n - 1` left. -/
def outsAt0 (c : Dev nD) : (n : ℕ) → n < cfg0.N → Vec F S256x1024 .bf16 × Vec F S256x4096 .bf16 × Vec F S256x1024 .bf16 × Vec F S256x4096 .bf16 × Vec F S256x1024 .f32 × Vec F S1x128 .f32 × Vec F S1x1024 .f32 × Vec F S1x1024 .f32 × Vec F S4096x1024 .bf16 × Vec F S4096x1024 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (V m c main_v1) (V m c main_v2))
  | n + 1, hn =>
    if h0 : (n + 1) % 16 = 0 then
      if h1 : (n + 1) % 16 = 0 then
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (V m c main_v1) (V m c main_v2))
      else
        False.elim (by have hN : n + 1 < 16 := lt_of_lt_of_eq hn (show cfg0.N = 16 from N_0); omega)
    else
      if h1 : (n + 1) % 16 = 0 then
        False.elim (by have hN : n + 1 < 16 := lt_of_lt_of_eq hn (show cfg0.N = 16 from N_0); omega)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2 (V m c main_v1) (V m c main_v2))

/-- `outsAt0` at a point of case A: that case's contents. -/
theorem outsAt0_A (c : Dev nD) (t : Fin cfg0.N) (h0 : t.val % 16 = 0) (h1 : t.val % 16 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr h0) ((hcond0_1 t).mpr h1) (iblk m c 0 t) (iblk m c 1 t) (iblk m c 2 t) (iblk m c 3 t) (V m c main_v1) (V m c main_v2)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 16 = 0) (h1 : ¬t.val % 16 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2 (V m c main_v1) (V m c main_v2)) := by
  obtain ⟨n, hn⟩ := t
  cases n with
  | zero => exact (by exfalso; (try dsimp only at h0); exact absurd (Nat.zero_mod _) h0)
  | succ n => exact (dif_neg h0).trans ((dif_neg h1).trans rfl)

/-- What holds between two points: before the first one the scratch may hold anything; later on the two copies of the
    weights hold what the point before left. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2) ∗ (∃ d, owns (c : Thread nD τ) scM0_2 fullShare d)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v1) ∗ hbPt0 c hbM0_1 (V m c main_v2)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2) ∗ (∃ d, owns (c : Thread nD τ) scM0_2 fullShare d)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v1) ∗ hbPt0 c hbM0_1 (V m c main_v2))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2) ∗ (∃ d, owns (c : Thread nD τ) scM0_2 fullShare d)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v1) ∗ hbPt0 c hbM0_1 (V m c main_v2))) := by
  cases n with
  | zero => exact absurd rfl hz
  | succ n => rfl

/-! ## The pipeline's proof data -/

/-- What each array holds at the start, what each staging buffer holds after point `t`, and what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
    | ⟨10, _⟩ => (outsAt0 m c t.val t.isLt).2.2.2.2.2.2.1
    | ⟨11, _⟩ => (outsAt0 m c t.val t.isLt).2.2.2.2.2.2.2.1
  Φ t := PhiS m c t.val (Nat.le_of_lt_succ t.isLt)
  q _ := fullShare
  owed _ := 0

/-- The arrays at the start are what the call finds. -/
theorem A_eq (c : Dev nD) (w : Fin cfg0.W) : (dats m 0 c).A w = V m c (Pipeline.arrRef spec0 w) := by
  dsimp only [dats]

/-- What holds before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]
theorem after0_10 (c : Dev nD) (t : Fin cfg0.N) : (dats m 0 c).after 10 t = (outsAt0 m c t.val t.isLt).2.2.2.2.2.2.1 := by dsimp only [dats]
theorem after0_11 (c : Dev nD) (t : Fin cfg0.N) : (dats m 0 c).after 11 t = (outsAt0 m c t.val t.isLt).2.2.2.2.2.2.2.1 := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later point output 9's staging buffer still holds what the point before left. -/
theorem before0_9_B (c : Dev nD) (t : Fin cfg0.N) (h0 : ¬t.val % 16 = 0) (h1 : ¬t.val % 16 = 0) (d) :
    (dats m 0 c).before 9 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
/-- At a later point output 10's staging buffer still holds what the point before left. -/
theorem before0_10_B (c : Dev nD) (t : Fin cfg0.N) (h0 : ¬t.val % 16 = 0) (h1 : ¬t.val % 16 = 0) (d) :
    (dats m 0 c).before 10 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]
/-- At a later point output 11's staging buffer still holds what the point before left. -/
theorem before0_11_B (c : Dev nD) (t : Fin cfg0.N) (h0 : ¬t.val % 16 = 0) (h1 : ¬t.val % 16 = 0) (d) :
    (dats m 0 c).before 11 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body runs at every point, and leaves what is stated of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 0
    · by_cases hz : t.val = 0
      · rw [PhiS_castSucc m c t, PhiS_zero m c _ _ hz, PhiD0_eq]
        rw [outsAt0_A m c t h0 h1]
        unfold out0_A_4 out0_A_5 out0_A_6 out0_A_7 out0_A_8 out0_A_9 out0_A_10 out0_A_11 sout0_A_0 sout0_A_1; (try dsimp only)
        iintro ⟨⟨⟨HS0, HS1, HS2⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (V m c main_v1) (V m c main_v2)).2.2.2.2.2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%es0, HS0⟩, ⟨%es1, HS1⟩, ⟨%fT2, HS2⟩, Hq0, Hq1, Hq2, Hq3, Hq4, Hq5, Hq6, Hq7, Hh0, Hh1, ⟨%W', HW'⟩⟩
        isplitl [HS0 HS1 HS2 Hg Hq0 Hq1 Hq2 Hq3 Hq4 Hq5 Hq6 Hq7 Hh0 Hh1]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _)
            iexists _; unfold owns; iexists _; isplitr
            swap; · iexact HS2
            ipureintro; rfl
          isplitl [Hg]
          · iexact Hg
          isplitl [Hq0 Hq1 Hq2 Hq3 Hq4 Hq5 Hq6 Hq7]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            iexact Hq7
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _)
      · exfalso; have hN : t.val < 16 := lt_of_lt_of_eq t.isLt (show cfg0.N = 16 from N_0); omega
    · exfalso; omega
  · by_cases h1 : t.val % 16 = 0
    · exfalso; omega
    · by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        simp only [before0_9_B m c t h0 h1, before0_10_B m c t h0 h1, before0_11_B m c t h0 h1]
        unfold out0_B_4 out0_B_5 out0_B_6 out0_B_7 out0_B_8 out0_B_9 out0_B_10 out0_B_11 sout0_B_0 sout0_B_1; (try dsimp only)
        iintro ⟨⟨⟨HS0, HS1, HS2⟩, Hg, ⟨Hq0, Hq1, Hq2, Hq3, Hq4, Hq5, Hq6, Hq7⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _ _ (V m c main_v1) (V m c main_v2)).2.2.2.2.2.2.2.2.2.2.2 W _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexact H9
        isplitl [H10]; · iexact H10
        isplitl [H11]; · iexact H11
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hh0]; · iexact Hh0
        isplitl [Hh1]; · iexact Hh1
        isplitl [HW]; · iexact HW
        iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, HS0, HS1, ⟨%fT2, HS2⟩, Hq0, Hq1, Hq2, Hq3, Hq4, Hq5, Hq6, Hq7, Hh0, Hh1, ⟨%W', HW'⟩⟩
        isplitl [HS0 HS1 HS2 Hg Hq0 Hq1 Hq2 Hq3 Hq4 Hq5 Hq6 Hq7 Hh0 Hh1]
        · isplitl [HS0 HS1 HS2]
          · isplitl [HS0]; · iexact HS0
            isplitl [HS1]; · iexact HS1
            iexists _; unfold owns; iexists _; isplitr
            swap; · iexact HS2
            ipureintro; rfl
          isplitl [Hg]
          · iexact Hg
          isplitl [Hq0 Hq1 Hq2 Hq3 Hq4 Hq5 Hq6 Hq7]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            iexact Hq7
          isplitl [Hh0]; · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _)
        isplitl [H10]
        · unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _)

/-- The body that the table of bodies holds for a point. -/
theorem defs₀_row (t : Fin cfg0.N) :
    defs₀ (F := F) .tc cfg0.body (cfg0.bodyArgs t (cfg0.slots t)) = bodyAt0 t := by
  unfold defs₀; rw [Defs.onTc_tc]

/-- The same, in the form the library asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What holds at the launch is what holds before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After a point, the scratch may again be said to hold anything. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7⟩, ⟨Hh0, Hh1⟩⟩
  isplitl [HS0 HS1 HS2]
  · isplitl [HS0]
    · iexists _; iexact HS0
    isplitl [HS1]
    · iexists _; iexact HS1
    iexact HS2
  isplitl [Hg]; · iexact Hg
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [Hh0]; · iexact Hh0
  iexact Hh1

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
/-- Every run ends, with the arrays at what the points wrote and every semaphore's counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run ends, with the arrays at what the points wrote and every other buffer as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- Every run ends, with the argument arrays unchanged and every semaphore's counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelMlpIdeal.Gen

end
-- ==== Proof.MlpValue.lean ====
/- The call's run with each of its eight arrays named, and its arguments unchanged. -/
module

public import proofs.«01_k».proof.Proof.MlpFrame
public import Idealize.ShloMosaic.Lib.Pipeline.Value

@[expose] public section

noncomputable section

namespace Cert.KernelMlpIdeal.Value

open Cert.KernelMlpIdeal Cert.KernelMlpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_3) = (dats m 0 c).arrAt 7 cfg0.N :=
  (h c).1 7

/-- After the run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v3_4) = (dats m 0 c).arrAt 8 cfg0.N :=
  (h c).1 8

/-- After the run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v3_5) = (dats m 0 c).arrAt 9 cfg0.N :=
  (h c).1 9

/-- After the run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v3_6) = (dats m 0 c).arrAt 10 cfg0.N :=
  (h c).1 10

/-- After the run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v3_7) = (dats m 0 c).arrAt 11 cfg0.N :=
  (h c).1 11

/-- After the run, argument `main_arg0` is as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run, argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the run, argument `main_arg2` is as launched. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the run, argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the run, argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the run, argument `main_arg5` is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The run, with each output array named and the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_v3_3) = (dats m 0 c).arrAt 7 cfg0.N
      ∧ r.2.mem ((c : Thread nD τ).loc main_v3_4) = (dats m 0 c).arrAt 8 cfg0.N
      ∧ r.2.mem ((c : Thread nD τ).loc main_v3_5) = (dats m 0 c).arrAt 9 cfg0.N
      ∧ r.2.mem ((c : Thread nD τ).loc main_v3_6) = (dats m 0 c).arrAt 10 cfg0.N
      ∧ r.2.mem ((c : Thread nD τ).loc main_v3_7) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post4 m r h c,
      post5 m r h c,
      post6 m r h c,
      post7 m r h c,
      post8 m r h c,
      post9 m r h c,
      post10 m r h c,
      post11 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelMlpIdeal.Value

end
-- ==== Proof.MlpModel.lean ====
/- What the channel mixer, its loss and their gradient compute, in plain sums over the extended reals. Every definition
   takes the number `n` of rows as a parameter, so that it says what one block of 256 rows holds as well as what the
   whole array of 4096 rows holds. -/
module

public import proofs.«01_k».proof.Proof.Model

@[expose] public section

set_option maxRecDepth 16384

noncomputable section

open Idealize.ShloMosaic Idealize.ShloMosaic.TcCoe Idealize.SL.Sem

namespace Cert.MlpModel

open Cert.MergeModel

/-- The number of columns, 1024. -/
def width : EReal := Ideal.ofBits .f32 0x44800000#32
/-- The constant the norm adds to the mean square, about one millionth. -/
def eps : EReal := Ideal.ofBits .f32 0x358637BD#32

/-- One over the root of a row's mean square. -/
def rms {n : ℕ} (x : Mat n 1024) (s : Fin n) : EReal :=
  Ideal.rsqrt (Ideal.div (∑ j : Fin 1024, x (ix2 s j) * x (ix2 s j)) width + eps)
/-- The rows divided by their root mean square. -/
def normed {n : ℕ} (x : Mat n 1024) : Mat n 1024 := fun i => x i * rms x (i 0)
/-- … and times a gain. -/
def scaled {n : ℕ} (x : Mat n 1024) (g : Mat 1 1024) : Mat n 1024 := fun i => normed x i * g (ix2 0 (i 1))

/-- The rows' products with the rows of `w`, the negative ones replaced by zero. -/
def relu {n k p : ℕ} (x : Mat n k) (w : Mat p k) : Mat n p := fun i => max (mulT x w i) 0
/-- … squared. -/
def squared {n k p : ℕ} (x : Mat n k) (w : Mat p k) : Mat n p := fun i => relu x w i * relu x w i

/-- Row `k` of quarter `q`. -/
def qrow (q : Fin 4) (k : Fin 1024) : Fin 4096 := ⟨q.val * 1024 + k.val, by omega⟩
/-- Quarter `q` of the rows of `w`. -/
def quarter {p : ℕ} (q : Fin 4) (w : Mat 4096 p) : Mat 1024 p := fun i => w (ix2 (qrow q (i 0)) (i 1))

/-- A sum over the rows, quarter by quarter. -/
theorem sum_quarters (f : Fin 4096 → EReal) : ∑ k, f k = ∑ q : Fin 4, ∑ k : Fin 1024, f (qrow q k) := by
  rw [← Finset.sum_product', Finset.univ_product_univ]
  refine (Fintype.sum_equiv (finProdFinEquiv (m := 4) (n := 1024)) (fun p => f (qrow p.1 p.2)) f fun p => ?_).symm
  congr 1
  exact Fin.ext (by simp [qrow, finProdFinEquiv]; omega)

/-- The residual stream after the mixer. -/
def mixed {n : ℕ} (x : Mat n 1024) (g : Mat 1 1024) (w1 w2 : Mat 4096 1024) : Mat n 1024 := fun i =>
  x i + mul (squared (scaled x g) w1) w2 i

/-- One quarter's contribution to it. -/
def part {n : ℕ} (y : Mat n 1024) (w1 w2 : Mat 4096 1024) (q : Fin 4) : Mat n 1024 :=
  mul (squared y (quarter q w1)) (quarter q w2)

/-- The mixer's output is the sum of the quarters' contributions. -/
theorem mixed_eq {n : ℕ} (x : Mat n 1024) (g : Mat 1 1024) (w1 w2 : Mat 4096 1024) (i) :
    mixed x g w1 w2 i = x i + part (scaled x g) w1 w2 0 i + part (scaled x g) w1 w2 1 i + part (scaled x g) w1 w2 2 i
      + part (scaled x g) w1 w2 3 i := by
  show x i + ∑ k : Fin 4096, _ = _
  rw [sum_quarters, Fin.sum_univ_four, ← add_assoc, ← add_assoc, ← add_assoc]
  rfl

/-- What the prediction misses the target by. -/
def miss {n : ℕ} (h : Mat n 1024) (g : Mat 1 1024) (t : Mat n 1024) : Mat n 1024 := fun i => scaled h g i - t i

/-- One part in 1024. -/
def share : EReal := Ideal.ofBits .f32 0x3A800000#32
/-- The number two. -/
def two : EReal := Ideal.ofBits .f32 0x40000000#32
/-- The derivative of the loss by the prediction. -/
def dout {n : ℕ} (h : Mat n 1024) (g : Mat 1 1024) (t : Mat n 1024) : Mat n 1024 := fun i => miss h g t i * share
/-- Rows times a gain. -/
def gained {n : ℕ} (z : Mat n 1024) (g : Mat 1 1024) : Mat n 1024 := fun i => z i * g (ix2 0 (i 1))
/-- The derivative of the norm of the rows `x` along `z`. -/
def back {n : ℕ} (x z : Mat n 1024) : Mat n 1024 := fun i =>
  rms x (i 0) * (z i - normed x i * Ideal.div (∑ j : Fin 1024, z (ix2 (i 0) j) * normed x (ix2 (i 0) j)) width)
/-- The derivative by the residual stream after the mixer. -/
def dmixed {n : ℕ} (h : Mat n 1024) (g : Mat 1 1024) (t : Mat n 1024) : Mat n 1024 := back h (gained (dout h g t) g)
/-- The derivative by the mixer's first product. -/
def dfirst {n p : ℕ} (d y : Mat n 1024) (w1 w2 : Mat p 1024) : Mat n p := fun i => mulT d w2 i * (two * relu y w1 i)
/-- The derivative by the normalised rows. -/
def dscaled {n : ℕ} (d y : Mat n 1024) (w1 w2 : Mat 4096 1024) : Mat n 1024 := mul (dfirst d y w1 w2) w1
/-- One quarter's contribution to it. -/
def dpart {n : ℕ} (d y : Mat n 1024) (w1 w2 : Mat 4096 1024) (q : Fin 4) : Mat n 1024 :=
  mul (dfirst d y (quarter q w1) (quarter q w2)) (quarter q w1)
/-- The derivative by the normalised rows is the sum of the quarters' contributions. -/
theorem dscaled_eq {n : ℕ} (d y : Mat n 1024) (w1 w2 : Mat 4096 1024) (i) :
    dscaled d y w1 w2 i = dpart d y w1 w2 0 i + dpart d y w1 w2 1 i + dpart d y w1 w2 2 i + dpart d y w1 w2 3 i := by
  show ∑ k : Fin 4096, dfirst d y w1 w2 (ix2 (i 0) k) * w1 (ix2 k (i 1)) = _
  rw [sum_quarters, Fin.sum_univ_four]
  rfl
/-- The derivative by the mixer's input. -/
def dinput {n : ℕ} (x : Mat n 1024) (g : Mat 1 1024) (d e : Mat n 1024) : Mat n 1024 := fun i =>
  d i + back x (gained e g) i

end Cert.MlpModel

end
-- ==== Proof.MlpPay.lean ====
/- What each value the call's body stores is, in plain sums. -/
module

public import proofs.«01_k».proof.Proof.Gen.KernelMlpIdeal.Skeleton
public import proofs.«01_k».proof.Proof.MlpModel

@[expose] public section

set_option maxRecDepth 16384

noncomputable section

open Idealize.ShloMosaic Idealize.ShloMosaic.TcCoe Idealize.SL.Sem

namespace Cert.KernelMlpIdeal.Result

open Cert.KernelMlpIdeal Cert.KernelMlpIdeal.Gen Cert.MergeModel Cert.MlpModel

/-- The normalised rows. -/
theorem pay5 (x : Mat 256 1024) (g : Mat 1 1024) : k0_pay5 (F := Ideal) x g = scaled x g := by
  funext i
  pointwise [k0_pay5, scaled, normed, rms, width, eps]

theorem pay6 (x : Mat 256 1024) (g : Mat 1 1024) (w : Mat 1024 1024) : k0_pay6 (F := Ideal) x g w = relu (scaled x g) w := by
  funext i
  unfold k0_pay6
  rw [pay5]
  pointwise [relu, mulT]

theorem pay8 (x : Mat 256 1024) (g : Mat 1 1024) (w : Mat 1024 1024) : k0_pay8 (F := Ideal) x g w = squared (scaled x g) w := by
  funext i
  unfold k0_pay8
  rw [pay6]
  pointwise [squared]

theorem pay9 (y : Mat 256 1024) (w : Mat 1024 1024) : k0_pay9 (F := Ideal) y w = relu y w := by
  funext i
  unfold k0_pay9
  pointwise [relu, mulT]

theorem pay11 (y : Mat 256 1024) (w : Mat 1024 1024) : k0_pay11 (F := Ideal) y w = squared y w := by
  funext i
  unfold k0_pay11
  rw [pay9]
  pointwise [squared]

theorem pay15 (x y h0 : Mat 256 1024) (v0 w1 v1 w2 v2 : Mat 1024 1024) :
    k0_pay15 (F := Ideal) x y h0 v0 w1 v1 w2 v2 = fun i => x i + mul h0 v0 i + mul (squared y w1) v1 i + mul (squared y w2) v2 i := by
  funext i
  unfold k0_pay15
  rw [show k0_pay14 (F := Ideal) = k0_pay11 from rfl, pay11, pay11]
  pointwise [mul]

theorem pay19 (h y : Mat 256 1024) (w3 v3 : Mat 1024 1024) :
    k0_pay19 (F := Ideal) y h w3 v3 = fun i => h i + mul (squared y w3) v3 i := by
  funext i
  unfold k0_pay19
  rw [show k0_pay18 (F := Ideal) = k0_pay11 from rfl, pay11]
  pointwise [mul]

theorem pay20 (h y : Mat 256 1024) (w3 v3 : Mat 1024 1024) :
    k0_pay20 (F := Ideal) y h w3 v3 = fun i => rms (fun i => h i + mul (squared y w3) v3 i) (i 0) := by
  funext i
  unfold k0_pay20
  rw [pay19]
  pointwise [rms, width, eps]

theorem pay21 (h y : Mat 256 1024) (w3 v3 : Mat 1024 1024) :
    k0_pay21 (F := Ideal) y h w3 v3 = normed (fun i => h i + mul (squared y w3) v3 i) := by
  funext i
  unfold k0_pay21
  rw [pay20, pay19]
  pointwise [normed]

theorem pay22 (h y : Mat 256 1024) (w3 v3 : Mat 1024 1024) (g : Mat 1 1024) (t : Mat 256 1024) :
    k0_pay22 (F := Ideal) y h w3 v3 g t = miss (fun i => h i + mul (squared y w3) v3 i) g t := by
  funext i
  unfold k0_pay22
  rw [pay21]
  pointwise [miss, scaled]

theorem pay24 (h y : Mat 256 1024) (w3 v3 : Mat 1024 1024) (g : Mat 1 1024) (t : Mat 256 1024) :
    k0_pay24 (F := Ideal) y h w3 v3 g t = ∑ s : Fin 256, ∑ j : Fin 1024,
      miss (fun i => h i + mul (squared y w3) v3 i) g t (ix2 s j) * miss (fun i => h i + mul (squared y w3) v3 i) g t (ix2 s j) := by
  unfold k0_pay24
  rw [pay22]
  pointwise []

theorem pay27 (a e : Mat 256 1024) (o : Mat 1 1024) :
    k0_pay27 (F := Ideal) a e o = fun i => o i + ∑ s : Fin 256, e (ix2 s (i 1)) * share * a (ix2 s (i 1)) := by
  funext i
  pointwise [k0_pay27, k0_pay26, share]

theorem pay28 (h e : Mat 256 1024) (g : Mat 1 1024) :
    k0_pay28 (F := Ideal) (fun i => rms h (i 0)) (normed h) e g = back h (gained (fun i => e i * share) g) := by
  funext i
  pointwise [k0_pay28, k0_pay26, share, back, gained, width]

theorem pay31 (h e : Mat 256 1024) (g : Mat 1 1024) (w : Mat 1024 1024) (a : Mat 256 1024) :
    k0_pay31 (F := Ideal) (fun i => rms h (i 0)) (normed h) e g w a = fun i => mulT (back h (gained (fun i => e i * share) g)) w i * (two * a i) := by
  funext i
  unfold k0_pay31 k0_pay29
  rw [pay28]
  pointwise [mulT, two]

theorem pay33 (d : Mat 256 1024) (w : Mat 1024 1024) (a : Mat 256 1024) :
    k0_pay33 (F := Ideal) d w a = fun i => mulT d w i * (two * a i) := by
  funext i
  pointwise [k0_pay33, mulT, two]

theorem pay35 (d o e0 : Mat 256 1024) (v0 w1 v1 w2 v2 : Mat 1024 1024) (a1 a2 : Mat 256 1024) :
    k0_pay35 (F := Ideal) d o e0 v0 w1 a1 v1 w2 a2 v2 = fun i => o i + mul e0 v0 i + mul (fun i => mulT d w1 i * (two * a1 i)) v1 i
      + mul (fun i => mulT d w2 i * (two * a2 i)) v2 i := by
  funext i
  unfold k0_pay35
  rw [show k0_pay34 (F := Ideal) = k0_pay33 from rfl, pay33, pay33]
  pointwise [k0_pay32, mul]

theorem pay37 (d e : Mat 256 1024) (w3 v3 : Mat 1024 1024) (a3 : Mat 256 1024) :
    k0_pay37 (F := Ideal) d e w3 a3 v3 = fun i => e i + mul (fun i => mulT d w3 i * (two * a3 i)) v3 i := by
  funext i
  unfold k0_pay37
  rw [show k0_pay36 (F := Ideal) = k0_pay33 from rfl, pay33]
  pointwise [mul]

theorem pay39 (x : Mat 256 1024) : k0_pay39 (F := Ideal) x = normed x := by
  funext i
  pointwise [k0_pay39, k0_pay38, normed, rms, width, eps]

theorem pay40 (x d e : Mat 256 1024) (w3 v3 : Mat 1024 1024) (a3 : Mat 256 1024) :
    k0_pay40 (F := Ideal) x d e w3 a3 v3 = fun i => ∑ s : Fin 256,
      (e (ix2 s (i 1)) + mul (fun i => mulT d w3 i * (two * a3 i)) v3 (ix2 s (i 1))) * normed x (ix2 s (i 1)) := by
  funext i
  unfold k0_pay40
  rw [pay37, pay39]
  pointwise []

theorem pay41 (x d' d e : Mat 256 1024) (w3 v3 : Mat 1024 1024) (a3 : Mat 256 1024) (g : Mat 1 1024) :
    k0_pay41 (F := Ideal) x d' d e w3 a3 v3 g = fun i => d' i
      + back x (gained (fun i => e i + mul (fun i => mulT d w3 i * (two * a3 i)) v3 i) g) i := by
  funext i
  unfold k0_pay41
  rw [pay37, pay39, show k0_pay38 (F := Ideal) x = fun i => rms x (i 0) from by
    funext i; pointwise [k0_pay38, rms, width, eps]]
  pointwise [back, gained, width]

/-- The rectified products, rounded before their store. -/
theorem pay7 (x : Mat 256 1024) (g : Mat 1 1024) (w : Mat 1024 1024) : k0_pay7 (F := Ideal) x g w = relu (scaled x g) w := by
  funext i
  unfold k0_pay7
  rw [pay6]
  pointwise []

theorem pay10 (y : Mat 256 1024) (w : Mat 1024 1024) : k0_pay10 (F := Ideal) y w = relu y w := by
  funext i
  unfold k0_pay10
  rw [pay9]
  pointwise []

theorem pay13 (y : Mat 256 1024) (w : Mat 1024 1024) : k0_pay13 (F := Ideal) y w = relu y w := pay10 y w
theorem pay17 (y : Mat 256 1024) (w : Mat 1024 1024) : k0_pay17 (F := Ideal) y w = relu y w := pay10 y w
theorem pay14 (y : Mat 256 1024) (w : Mat 1024 1024) : k0_pay14 (F := Ideal) y w = squared y w := pay11 y w
theorem pay18 (y : Mat 256 1024) (w : Mat 1024 1024) : k0_pay18 (F := Ideal) y w = squared y w := pay11 y w

section Stack

variable (x : Mat 256 1024) (g g' : Mat 1 1024) (t : Mat 256 1024) (w v : Mat 4096 1024)

/-- The residual stream after three of the mixer's quarters, as the kernel spells it. -/
abbrev Three : Mat 256 1024 := k0_pay15 (F := Ideal) x (scaled x g) (squared (scaled x g) (quarter 0 w)) (quarter 0 v)
  (quarter 1 w) (quarter 1 v) (quarter 2 w) (quarter 2 v)

theorem three : (fun i => Three x g w v i + mul (squared (scaled x g) (quarter 3 w)) (quarter 3 v) i) = mixed x g w v := by
  funext i
  rw [mixed_eq, Three, pay15]
  rfl

theorem stack20 : k0_pay20 (F := Ideal) (scaled x g) (Three x g w v) (quarter 3 w) (quarter 3 v) = fun i => rms (mixed x g w v) (i 0) := by
  rw [pay20, three]
theorem stack21 : k0_pay21 (F := Ideal) (scaled x g) (Three x g w v) (quarter 3 w) (quarter 3 v) = normed (mixed x g w v) := by
  rw [pay21, three]
theorem stack22 : k0_pay22 (F := Ideal) (scaled x g) (Three x g w v) (quarter 3 w) (quarter 3 v) g' t = miss (mixed x g w v) g' t := by
  rw [pay22, three]
theorem stack24 : k0_pay24 (F := Ideal) (scaled x g) (Three x g w v) (quarter 3 w) (quarter 3 v) g' t
    = ∑ s : Fin 256, ∑ j : Fin 1024, miss (mixed x g w v) g' t (ix2 s j) * miss (mixed x g w v) g' t (ix2 s j) := by
  rw [pay24, three]

variable (h d y : Mat 256 1024)

theorem stack28 : k0_pay28 (F := Ideal) (fun i => rms h (i 0)) (normed h) (miss h g' t) g' = dmixed h g' t := pay28 h _ g'
theorem stack29 : k0_pay29 (F := Ideal) (fun i => rms h (i 0)) (normed h) (miss h g' t) g' = dmixed h g' t := by
  funext i
  unfold k0_pay29
  rw [stack28]
  pointwise []
theorem stack31 : k0_pay31 (F := Ideal) (fun i => rms h (i 0)) (normed h) (miss h g' t) g' (quarter 0 v) (relu y (quarter 0 w))
    = dfirst (dmixed h g' t) y (quarter 0 w) (quarter 0 v) := pay31 h _ g' _ _
theorem stack32 (e : Mat 256 1024) : k0_pay32 (F := Ideal) e = e := by
  funext i
  pointwise [k0_pay32]
theorem stack33 (q : Fin 4) : k0_pay33 (F := Ideal) d (quarter q v) (relu y (quarter q w)) = dfirst d y (quarter q w) (quarter q v) :=
  pay33 d _ _
theorem stack34 (q : Fin 4) : k0_pay34 (F := Ideal) d (quarter q v) (relu y (quarter q w)) = dfirst d y (quarter q w) (quarter q v) :=
  pay33 d _ _
theorem stack36 (q : Fin 4) : k0_pay36 (F := Ideal) d (quarter q v) (relu y (quarter q w)) = dfirst d y (quarter q w) (quarter q v) :=
  pay33 d _ _
theorem stack35 : k0_pay35 (F := Ideal) d k0_pay30 (dfirst d y (quarter 0 w) (quarter 0 v)) (quarter 0 w)
      (quarter 1 v) (relu y (quarter 1 w)) (quarter 1 w) (quarter 2 v) (relu y (quarter 2 w)) (quarter 2 w)
    = fun i => dpart d y w v 0 i + dpart d y w v 1 i + dpart d y w v 2 i := by
  rw [pay35]
  funext i
  have h0 : k0_pay30 (F := Ideal) i = 0 := by pointwise [k0_pay30]
  show k0_pay30 (F := Ideal) i + _ + _ + _ = _
  rw [h0, zero_add]
  rfl
theorem stack40 : k0_pay40 (F := Ideal) x d (fun i => dpart d y w v 0 i + dpart d y w v 1 i + dpart d y w v 2 i)
      (quarter 3 v) (relu y (quarter 3 w)) (quarter 3 w)
    = fun i => ∑ s : Fin 256, dscaled d y w v (ix2 s (i 1)) * normed x (ix2 s (i 1)) := by
  rw [pay40]
  funext i
  refine Finset.sum_congr rfl fun s _ => ?_
  rw [dscaled_eq]
  rfl
theorem stack41 : k0_pay41 (F := Ideal) x d d (fun i => dpart d y w v 0 i + dpart d y w v 1 i + dpart d y w v 2 i)
      (quarter 3 v) (relu y (quarter 3 w)) (quarter 3 w) g
    = dinput x g d (dscaled d y w v) := by
  rw [pay41]
  have e : (fun i => (fun i => dpart d y w v 0 i + dpart d y w v 1 i + dpart d y w v 2 i) i
      + mul (fun i => mulT d (quarter 3 v) i * (two * relu y (quarter 3 w) i)) (quarter 3 w) i) = dscaled d y w v := by
    funext i
    rw [dscaled_eq]
    rfl
  rw [e]
  rfl

end Stack

end Cert.KernelMlpIdeal.Result

end
-- ==== Proof.MlpBlocks.lean ====
/- What the call's body leaves after each of the sixteen grid points. -/
module

public import proofs.«01_k».proof.Proof.MlpValue
public import proofs.«01_k».proof.Proof.MlpPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelMlpIdeal.Result

open Cert.KernelMlpIdeal Cert.KernelMlpIdeal.Gen Cert.MergeModel Cert.MlpModel

variable (m : (ℓ : Loc nD τ sig) → Buf (Elt Ideal) ℓ) (c : Dev nD)

/-- The two weights, with the mixer's hidden columns as rows. -/
abbrev W1 : Mat 4096 1024 := V m c main_v1
abbrev W2 : Mat 4096 1024 := V m c main_v2

/-- A block of 1024 rows of the weights, read for its copy. -/
theorem slice1_0 (h) (X : Mat 4096 1024) : ReadAs.same.apply (View.read (Elt Ideal) ((View.whole main_v1).slice
    (Rect.unit (s := S4096x1024) ![0, 0] ![1024, 1024] h)) X) = quarter 0 X := by
  funext x
  refine congrArg X ?_
  blk_ext
  · show 0 + 1 * (x 0).val = 0 * 1024 + (x 0).val; omega
  · show 0 + 1 * (x 1).val = (x 1).val; omega
theorem slice1_1 (h) (X : Mat 4096 1024) : ReadAs.same.apply (View.read (Elt Ideal) ((View.whole main_v1).slice
    (Rect.unit (s := S4096x1024) ![1024, 0] ![1024, 1024] h)) X) = quarter 1 X := by
  funext x
  refine congrArg X ?_
  blk_ext
  · show 1024 + 1 * (x 0).val = 1 * 1024 + (x 0).val; omega
  · show 0 + 1 * (x 1).val = (x 1).val; omega
theorem slice1_2 (h) (X : Mat 4096 1024) : ReadAs.same.apply (View.read (Elt Ideal) ((View.whole main_v1).slice
    (Rect.unit (s := S4096x1024) ![2048, 0] ![1024, 1024] h)) X) = quarter 2 X := by
  funext x
  refine congrArg X ?_
  blk_ext
  · show 2048 + 1 * (x 0).val = 2 * 1024 + (x 0).val; omega
  · show 0 + 1 * (x 1).val = (x 1).val; omega
theorem slice1_3 (h) (X : Mat 4096 1024) : ReadAs.same.apply (View.read (Elt Ideal) ((View.whole main_v1).slice
    (Rect.unit (s := S4096x1024) ![3072, 0] ![1024, 1024] h)) X) = quarter 3 X := by
  funext x
  refine congrArg X ?_
  blk_ext
  · show 3072 + 1 * (x 0).val = 3 * 1024 + (x 0).val; omega
  · show 0 + 1 * (x 1).val = (x 1).val; omega
theorem slice2_0 (h) (X : Mat 4096 1024) : ReadAs.same.apply (View.read (Elt Ideal) ((View.whole main_v2).slice
    (Rect.unit (s := S4096x1024) ![0, 0] ![1024, 1024] h)) X) = quarter 0 X := by
  funext x
  refine congrArg X ?_
  blk_ext
  · show 0 + 1 * (x 0).val = 0 * 1024 + (x 0).val; omega
  · show 0 + 1 * (x 1).val = (x 1).val; omega
theorem slice2_1 (h) (X : Mat 4096 1024) : ReadAs.same.apply (View.read (Elt Ideal) ((View.whole main_v2).slice
    (Rect.unit (s := S4096x1024) ![1024, 0] ![1024, 1024] h)) X) = quarter 1 X := by
  funext x
  refine congrArg X ?_
  blk_ext
  · show 1024 + 1 * (x 0).val = 1 * 1024 + (x 0).val; omega
  · show 0 + 1 * (x 1).val = (x 1).val; omega
theorem slice2_2 (h) (X : Mat 4096 1024) : ReadAs.same.apply (View.read (Elt Ideal) ((View.whole main_v2).slice
    (Rect.unit (s := S4096x1024) ![2048, 0] ![1024, 1024] h)) X) = quarter 2 X := by
  funext x
  refine congrArg X ?_
  blk_ext
  · show 2048 + 1 * (x 0).val = 2 * 1024 + (x 0).val; omega
  · show 0 + 1 * (x 1).val = (x 1).val; omega
theorem slice2_3 (h) (X : Mat 4096 1024) : ReadAs.same.apply (View.read (Elt Ideal) ((View.whole main_v2).slice
    (Rect.unit (s := S4096x1024) ![3072, 0] ![1024, 1024] h)) X) = quarter 3 X := by
  funext x
  refine congrArg X ?_
  blk_ext
  · show 3072 + 1 * (x 0).val = 3 * 1024 + (x 0).val; omega
  · show 0 + 1 * (x 1).val = (x 1).val; omega

/-- A block of 1024 rows of a copy. -/
theorem rows0 (h) (X : Mat 4096 1024) : View.ld (Val := Elt Ideal) (S := S4096x1024) (e' := .bf16) X
    (Rect.unit (s := S4096x1024) ![0, 0] ![1024, 1024] h) = quarter 0 X := by
  funext x
  refine congrArg X ?_
  blk_ext
  · show 0 + 1 * (x 0).val = 0 * 1024 + (x 0).val; omega
  · show 0 + 1 * (x 1).val = (x 1).val; omega
theorem rows1 (h) (X : Mat 4096 1024) : View.ld (Val := Elt Ideal) (S := S4096x1024) (e' := .bf16) X
    (Rect.unit (s := S4096x1024) ![1024, 0] ![1024, 1024] h) = quarter 1 X := by
  funext x
  refine congrArg X ?_
  blk_ext
  · show 1024 + 1 * (x 0).val = 1 * 1024 + (x 0).val; omega
  · show 0 + 1 * (x 1).val = (x 1).val; omega
theorem rows2 (h) (X : Mat 4096 1024) : View.ld (Val := Elt Ideal) (S := S4096x1024) (e' := .bf16) X
    (Rect.unit (s := S4096x1024) ![2048, 0] ![1024, 1024] h) = quarter 2 X := by
  funext x
  refine congrArg X ?_
  blk_ext
  · show 2048 + 1 * (x 0).val = 2 * 1024 + (x 0).val; omega
  · show 0 + 1 * (x 1).val = (x 1).val; omega
theorem rows3 (h) (X : Mat 4096 1024) : View.ld (Val := Elt Ideal) (S := S4096x1024) (e' := .bf16) X
    (Rect.unit (s := S4096x1024) ![3072, 0] ![1024, 1024] h) = quarter 3 X := by
  funext x
  refine congrArg X ?_
  blk_ext
  · show 3072 + 1 * (x 0).val = 3 * 1024 + (x 0).val; omega
  · show 0 + 1 * (x 1).val = (x 1).val; omega

/-- Where a quarter's entry stands in the whole array. -/
theorem quarter_at (q : Fin 4) (X : Mat 4096 1024) (x : (⟨2, ![1024, 1024]⟩ : Shape).Idx) (y : (⟨2, ![4096, 1024]⟩ : Shape).Idx)
    (h0 : (y 0).val = q.val * 1024 + (x 0).val) (h1 : (y 1).val = (x 1).val) : quarter q X x = X y :=
  congrArg X (by
    funext a; refine Fin.cases (Fin.ext h0.symm) (fun a => ?_) a; obtain rfl : a = 0 := Subsingleton.elim _ _; exact Fin.ext h1.symm)

theorem first1 (t : Fin cfg0.N) (h0 : t.val % 16 = 0) : (outsAt0 m c t.val t.isLt).2.2.2.2.2.2.2.2.1 = W1 m c := by
  rw [outsAt0_A m c t h0 h0]
  funext y
  frame_out; clear h0
  canon_tiles x h
  · rw [slice1_3]; exact quarter_at 3 _ x y (by show _ = 3 * 1024 + _; omega) (by omega)
  · rw [slice1_2]; exact quarter_at 2 _ x y (by show _ = 2 * 1024 + _; omega) (by omega)
  · rw [slice1_1]; exact quarter_at 1 _ x y (by show _ = 1 * 1024 + _; omega) (by omega)
  · rw [slice1_0]; exact quarter_at 0 _ x y (by show _ = 0 * 1024 + _; omega) (by omega)
theorem next1 (t : Fin cfg0.N) (h0 : ¬ t.val % 16 = 0) : (outsAt0 m c t.val t.isLt).2.2.2.2.2.2.2.2.1
    = (outsAt0 m c (t.val - 1) (by have := t.isLt; omega)).2.2.2.2.2.2.2.2.1 := by
  rw [outsAt0_B m c t h0 h0]
  funext y
  rfl
theorem first2 (t : Fin cfg0.N) (h0 : t.val % 16 = 0) : (outsAt0 m c t.val t.isLt).2.2.2.2.2.2.2.2.2 = W2 m c := by
  rw [outsAt0_A m c t h0 h0]
  funext y
  frame_out; clear h0
  canon_tiles x h
  · rw [slice2_3]; exact quarter_at 3 _ x y (by show _ = 3 * 1024 + _; omega) (by omega)
  · rw [slice2_2]; exact quarter_at 2 _ x y (by show _ = 2 * 1024 + _; omega) (by omega)
  · rw [slice2_1]; exact quarter_at 1 _ x y (by show _ = 1 * 1024 + _; omega) (by omega)
  · rw [slice2_0]; exact quarter_at 0 _ x y (by show _ = 0 * 1024 + _; omega) (by omega)
theorem next2 (t : Fin cfg0.N) (h0 : ¬ t.val % 16 = 0) : (outsAt0 m c t.val t.isLt).2.2.2.2.2.2.2.2.2
    = (outsAt0 m c (t.val - 1) (by have := t.isLt; omega)).2.2.2.2.2.2.2.2.2 := by
  rw [outsAt0_B m c t h0 h0]
  funext y
  rfl

/-- At every point the copies hold the weights. -/
theorem held (n : ℕ) (hn : n < cfg0.N) : (outsAt0 m c n hn).2.2.2.2.2.2.2.2.1 = W1 m c
    ∧ (outsAt0 m c n hn).2.2.2.2.2.2.2.2.2 = W2 m c := by
  have hN : cfg0.N = 16 := rfl
  induction n with
  | zero => exact ⟨first1 m c ⟨0, hn⟩ rfl, first2 m c ⟨0, hn⟩ rfl⟩
  | succ n ih =>
    have h : ¬ (n + 1) % 16 = 0 := by omega
    have := ih (by omega)
    exact ⟨(next1 m c ⟨n + 1, hn⟩ h).trans this.1, (next2 m c ⟨n + 1, hn⟩ h).trans this.2⟩

theorem held1 (n : ℕ) (hn : n < cfg0.N) : (outsAt0 m c n hn).2.2.2.2.2.2.2.2.1 = W1 m c := (held m c n hn).1
theorem held2 (n : ℕ) (hn : n < cfg0.N) : (outsAt0 m c n hn).2.2.2.2.2.2.2.2.2 = W2 m c := (held m c n hn).2

/-- The blocks of the inputs at point `t`, and what they amount to. -/
abbrev X (t : Fin cfg0.N) : Mat 256 1024 := iblk m c 0 t
abbrev G (t : Fin cfg0.N) : Mat 1 1024 := iblk m c 1 t
abbrev G' (t : Fin cfg0.N) : Mat 1 1024 := iblk m c 2 t
abbrev T (t : Fin cfg0.N) : Mat 256 1024 := iblk m c 3 t
abbrev Y (t : Fin cfg0.N) : Mat 256 1024 := scaled (X m c t) (G m c t)
abbrev Hm (t : Fin cfg0.N) : Mat 256 1024 := mixed (X m c t) (G m c t) (W1 m c) (W2 m c)
abbrev Dm (t : Fin cfg0.N) : Mat 256 1024 := dmixed (Hm m c t) (G' m c t) (T m c t)
abbrev Ds (t : Fin cfg0.N) : Mat 256 1024 := dscaled (Dm m c t) (Y m c t) (W1 m c) (W2 m c)

/-- A block of 1024 columns of the squares. -/
theorem squared_at (q : Fin 4) (z : Mat 256 1024) (w : Mat 4096 1024) (x : (⟨2, ![256, 1024]⟩ : Shape).Idx)
    (y : (⟨2, ![256, 4096]⟩ : Shape).Idx) (h0 : (y 0).val = (x 0).val) (h1 : (y 1).val = q.val * 1024 + (x 1).val) :
    squared z (quarter q w) x = squared z w y := by
  obtain e0 : y 0 = x 0 := Fin.ext h0
  obtain e1 : y 1 = qrow q (x 1) := Fin.ext h1
  unfold squared relu mulT quarter
  rw [e0, e1]
  rfl
/-- A block of 1024 columns of the derivative by the first product. -/
theorem dfirst_at (q : Fin 4) (d z : Mat 256 1024) (w v : Mat 4096 1024) (x : (⟨2, ![256, 1024]⟩ : Shape).Idx)
    (y : (⟨2, ![256, 4096]⟩ : Shape).Idx) (h0 : (y 0).val = (x 0).val) (h1 : (y 1).val = q.val * 1024 + (x 1).val) :
    dfirst d z (quarter q w) (quarter q v) x = dfirst d z w v y := by
  obtain e0 : y 0 = x 0 := Fin.ext h0
  obtain e1 : y 1 = qrow q (x 1) := Fin.ext h1
  unfold dfirst relu mulT quarter
  rw [e0, e1]
  rfl

/-- The normalised rows. -/
theorem out4 (t : Fin cfg0.N) (y) : (outsAt0 m c t.val t.isLt).1 y = Y m c t y := by
  by_cases h : t.val % 16 = 0
  · rw [outsAt0_A m c t h h]; frame_out; rw [pay5]
  · rw [outsAt0_B m c t h h]; frame_out; rw [pay5]

/-- The squares. -/
theorem out5 (t : Fin cfg0.N) (y) : (outsAt0 m c t.val t.isLt).2.1 y = squared (Y m c t) (W1 m c) y := by
  by_cases h : t.val % 16 = 0
  · rw [outsAt0_A m c t h h]; frame_out; clear h
    simp (disch := decide) only [↓ View.readCov_skip, ↓ View.readCov_cons_toLoadRect, ↓ View.readCov_fill]
    rw [slice1_0, slice1_1, slice1_2, slice1_3]
    simp only [pay5, pay7, pay10, pay13, pay17, pay8, pay11, pay14, pay18, stack20, stack21,
      stack22, stack24, stack28, stack29, stack31, stack32, stack33, stack34, stack36, stack35, stack40, stack41]
    canon_tiles x h
    · exact squared_at 3 _ _ x y (by omega) (by show _ = 3 * 1024 + _; omega)
    · exact squared_at 2 _ _ x y (by omega) (by show _ = 2 * 1024 + _; omega)
    · exact squared_at 1 _ _ x y (by omega) (by show _ = 1 * 1024 + _; omega)
    · exact squared_at 0 _ _ x y (by omega) (by show _ = 0 * 1024 + _; omega)
  · rw [outsAt0_B m c t h h]; frame_out; clear h
    simp (disch := decide) only [↓ View.readCov_skip, ↓ View.readCov_cons_toLoadRect, ↓ View.readCov_fill, read_unread_whole, held1, held2,
      rows0, rows1, rows2, rows3, pay5, pay7, pay10, pay13, pay17, pay8, pay11, pay14, pay18, stack20, stack21,
      stack22, stack24, stack28, stack29, stack31, stack32, stack33, stack34, stack36, stack35, stack40, stack41]
    canon_tiles x h
    · exact squared_at 3 _ _ x y (by omega) (by show _ = 3 * 1024 + _; omega)
    · exact squared_at 2 _ _ x y (by omega) (by show _ = 2 * 1024 + _; omega)
    · exact squared_at 1 _ _ x y (by omega) (by show _ = 1 * 1024 + _; omega)
    · exact squared_at 0 _ _ x y (by omega) (by show _ = 0 * 1024 + _; omega)

/-- The derivative by the residual stream after the mixer. -/
theorem out6 (t : Fin cfg0.N) (y) : (outsAt0 m c t.val t.isLt).2.2.1 y = Dm m c t y := by
  by_cases h : t.val % 16 = 0
  · rw [outsAt0_A m c t h h]; frame_out; clear h
    simp (disch := decide) only [↓ View.readCov_skip, ↓ View.readCov_cons_toLoadRect, ↓ View.readCov_fill]
    rw [slice1_0, slice1_1, slice1_2, slice1_3, slice2_0, slice2_1, slice2_2, slice2_3]
    simp only [pay5, pay7, pay10, pay13, pay17, pay8, pay11, pay14, pay18, stack20, stack21,
      stack22, stack24, stack28, stack29, stack31, stack32, stack33, stack34, stack36, stack35, stack40, stack41]
  · rw [outsAt0_B m c t h h]; frame_out; clear h
    simp (disch := decide) only [↓ View.readCov_skip, ↓ View.readCov_cons_toLoadRect, ↓ View.readCov_fill, read_unread_whole, held1, held2,
      rows0, rows1, rows2, rows3, pay5, pay7, pay10, pay13, pay17, pay8, pay11, pay14, pay18, stack20, stack21,
      stack22, stack24, stack28, stack29, stack31, stack32, stack33, stack34, stack36, stack35, stack40, stack41]

/-- The derivative by the first product. -/
theorem out7 (t : Fin cfg0.N) (y) : (outsAt0 m c t.val t.isLt).2.2.2.1 y = dfirst (Dm m c t) (Y m c t) (W1 m c) (W2 m c) y := by
  by_cases h : t.val % 16 = 0
  · rw [outsAt0_A m c t h h]; frame_out; clear h
    simp (disch := decide) only [↓ View.readCov_skip, ↓ View.readCov_cons_toLoadRect, ↓ View.readCov_fill]
    rw [slice1_0, slice1_1, slice1_2, slice1_3, slice2_0, slice2_1, slice2_2, slice2_3]
    simp only [pay5, pay7, pay10, pay13, pay17, pay8, pay11, pay14, pay18, stack20, stack21,
      stack22, stack24, stack28, stack29, stack31, stack32, stack33, stack34, stack36, stack35, stack40, stack41]
    canon_tiles x h
    · exact dfirst_at 3 _ _ _ _ x y (by omega) (by show _ = 3 * 1024 + _; omega)
    · exact dfirst_at 2 _ _ _ _ x y (by omega) (by show _ = 2 * 1024 + _; omega)
    · exact dfirst_at 1 _ _ _ _ x y (by omega) (by show _ = 1 * 1024 + _; omega)
    · exact dfirst_at 0 _ _ _ _ x y (by omega) (by show _ = 0 * 1024 + _; omega)
  · rw [outsAt0_B m c t h h]; frame_out; clear h
    simp (disch := decide) only [↓ View.readCov_skip, ↓ View.readCov_cons_toLoadRect, ↓ View.readCov_fill, read_unread_whole, held1, held2,
      rows0, rows1, rows2, rows3, pay5, pay7, pay10, pay13, pay17, pay8, pay11, pay14, pay18, stack20, stack21,
      stack22, stack24, stack28, stack29, stack31, stack32, stack33, stack34, stack36, stack35, stack40, stack41]
    canon_tiles x h
    · exact dfirst_at 3 _ _ _ _ x y (by omega) (by show _ = 3 * 1024 + _; omega)
    · exact dfirst_at 2 _ _ _ _ x y (by omega) (by show _ = 2 * 1024 + _; omega)
    · exact dfirst_at 1 _ _ _ _ x y (by omega) (by show _ = 1 * 1024 + _; omega)
    · exact dfirst_at 0 _ _ _ _ x y (by omega) (by show _ = 0 * 1024 + _; omega)

/-- The derivative by the input. -/
theorem out8 (t : Fin cfg0.N) (y) : (outsAt0 m c t.val t.isLt).2.2.2.2.1 y = dinput (X m c t) (G m c t) (Dm m c t) (Ds m c t) y := by
  by_cases h : t.val % 16 = 0
  · rw [outsAt0_A m c t h h]; frame_out; clear h
    simp (disch := decide) only [↓ View.readCov_skip, ↓ View.readCov_cons_toLoadRect, ↓ View.readCov_fill]
    rw [slice1_0, slice1_1, slice1_2, slice1_3, slice2_0, slice2_1, slice2_2, slice2_3]
    simp only [pay5, pay7, pay10, pay13, pay17, pay8, pay11, pay14, pay18, stack20, stack21,
      stack22, stack24, stack28, stack29, stack31, stack32, stack33, stack34, stack36, stack35, stack40, stack41]
  · rw [outsAt0_B m c t h h]; frame_out; clear h
    simp (disch := decide) only [↓ View.readCov_skip, ↓ View.readCov_cons_toLoadRect, ↓ View.readCov_fill, read_unread_whole, held1, held2,
      rows0, rows1, rows2, rows3, pay5, pay7, pay10, pay13, pay17, pay8, pay11, pay14, pay18, stack20, stack21,
      stack22, stack24, stack28, stack29, stack31, stack32, stack33, stack34, stack36, stack35, stack40, stack41]

/-- Half of one part in 1024. -/
def lossShare : EReal := Ideal.ofBits .f32 0x3A000000#32
/-- What a point adds to the loss, and to the derivatives by the two gains. -/
def part9 (t : Fin cfg0.N) : Mat 1 128 := fun _ => (∑ s : Fin 256, ∑ j : Fin 1024,
  miss (Hm m c t) (G' m c t) (T m c t) (ix2 s j) * miss (Hm m c t) (G' m c t) (T m c t) (ix2 s j)) * lossShare
def part10 (t : Fin cfg0.N) : Mat 1 1024 := fun i => ∑ s : Fin 256,
  dout (Hm m c t) (G' m c t) (T m c t) (ix2 s (i 1)) * normed (Hm m c t) (ix2 s (i 1))
def part11 (t : Fin cfg0.N) : Mat 1 1024 := fun i => ∑ s : Fin 256, Ds m c t (ix2 s (i 1)) * normed (X m c t) (ix2 s (i 1))

/-- The loss: the first point adds its part to zeros. -/
theorem loss_first (t : Fin cfg0.N) (h : t.val % 16 = 0) (y) : (outsAt0 m c t.val t.isLt).2.2.2.2.2.1 y = 0 + part9 m c t y := by
  rw [outsAt0_A m c t h h]; frame_out; clear h
  simp (disch := decide) only [↓ View.readCov_skip, ↓ View.readCov_cons_toLoadRect, ↓ View.readCov_fill]
  rw [slice1_0, slice1_1, slice1_2, slice1_3, slice2_0, slice2_1, slice2_2, slice2_3]
  simp only [pay5, pay7, pay10, pay13, pay17, pay8, pay11, pay14, pay18, stack20, stack21,
    stack22, stack24, stack28, stack29, stack31, stack32, stack33, stack34, stack36, stack35, stack40, stack41]
  pointwise [k0_pay25, k0_pay23, k0_pay2, part9, lossShare]
/-- … each later one to what the point before left. -/
theorem loss_next (t : Fin cfg0.N) (h : ¬ t.val % 16 = 0) (y) : (outsAt0 m c t.val t.isLt).2.2.2.2.2.1 y
    = (outsAt0 m c (t.val - 1) (by have := t.isLt; omega)).2.2.2.2.2.1 y + part9 m c t y := by
  rw [outsAt0_B m c t h h]; frame_out; clear h
  simp (disch := decide) only [↓ View.readCov_skip, ↓ View.readCov_cons_toLoadRect, ↓ View.readCov_fill, read_unread_whole, held1, held2,
    rows0, rows1, rows2, rows3, pay5, pay7, pay10, pay13, pay17, pay8, pay11, pay14, pay18, stack20, stack21,
    stack22, stack24, stack28, stack29, stack31, stack32, stack33, stack34, stack36, stack35, stack40, stack41]
  pointwise [k0_pay25, k0_pay23, part9, lossShare]

/-- The derivative by the last gain: the first point adds its part to zeros. -/
theorem gainOut_first (t : Fin cfg0.N) (h : t.val % 16 = 0) (y) : (outsAt0 m c t.val t.isLt).2.2.2.2.2.2.1 y = 0 + part10 m c t y := by
  rw [outsAt0_A m c t h h]; frame_out; clear h
  simp (disch := decide) only [↓ View.readCov_skip, ↓ View.readCov_cons_toLoadRect, ↓ View.readCov_fill]
  rw [slice1_0, slice1_1, slice1_2, slice1_3, slice2_0, slice2_1, slice2_2, slice2_3]
  simp only [pay5, pay7, pay10, pay13, pay17, pay8, pay11, pay14, pay18, stack20, stack21,
    stack22, stack24, stack28, stack29, stack31, stack32, stack33, stack34, stack36, stack35, stack40, stack41]
  rw [pay27]
  pointwise [k0_pay3, part10, dout]
/-- … each later one to what the point before left. -/
theorem gainOut_next (t : Fin cfg0.N) (h : ¬ t.val % 16 = 0) (y) : (outsAt0 m c t.val t.isLt).2.2.2.2.2.2.1 y
    = (outsAt0 m c (t.val - 1) (by have := t.isLt; omega)).2.2.2.2.2.2.1 y + part10 m c t y := by
  rw [outsAt0_B m c t h h]; frame_out; clear h
  simp (disch := decide) only [↓ View.readCov_skip, ↓ View.readCov_cons_toLoadRect, ↓ View.readCov_fill, read_unread_whole, held1, held2,
    rows0, rows1, rows2, rows3, pay5, pay7, pay10, pay13, pay17, pay8, pay11, pay14, pay18, stack20, stack21,
    stack22, stack24, stack28, stack29, stack31, stack32, stack33, stack34, stack36, stack35, stack40, stack41]
  rw [pay27]
  pointwise [part10, dout]

/-- The derivative by the first gain: the first point adds its part to zeros. -/
theorem gainIn_first (t : Fin cfg0.N) (h : t.val % 16 = 0) (y) : (outsAt0 m c t.val t.isLt).2.2.2.2.2.2.2.1 y = 0 + part11 m c t y := by
  rw [outsAt0_A m c t h h]; frame_out; clear h
  simp (disch := decide) only [↓ View.readCov_skip, ↓ View.readCov_cons_toLoadRect, ↓ View.readCov_fill]
  rw [slice1_0, slice1_1, slice1_2, slice1_3, slice2_0, slice2_1, slice2_2, slice2_3]
  simp only [pay5, pay7, pay10, pay13, pay17, pay8, pay11, pay14, pay18, stack20, stack21,
    stack22, stack24, stack28, stack29, stack31, stack32, stack33, stack34, stack36, stack35, stack40, stack41]
  pointwise [k0_pay1, k0_pay4, part11]
/-- … each later one to what the point before left. -/
theorem gainIn_next (t : Fin cfg0.N) (h : ¬ t.val % 16 = 0) (y) : (outsAt0 m c t.val t.isLt).2.2.2.2.2.2.2.1 y
    = (outsAt0 m c (t.val - 1) (by have := t.isLt; omega)).2.2.2.2.2.2.2.1 y + part11 m c t y := by
  rw [outsAt0_B m c t h h]; frame_out; clear h
  simp (disch := decide) only [↓ View.readCov_skip, ↓ View.readCov_cons_toLoadRect, ↓ View.readCov_fill, read_unread_whole, held1, held2,
    rows0, rows1, rows2, rows3, pay5, pay7, pay10, pay13, pay17, pay8, pay11, pay14, pay18, stack20, stack21,
    stack22, stack24, stack28, stack29, stack31, stack32, stack33, stack34, stack36, stack35, stack40, stack41]
  pointwise [k0_pay1, part11]

end Cert.KernelMlpIdeal.Result

end
-- ==== Proof.MlpReference.lean ====
/- What the reference of the channel mixer's call computes, in plain sums. -/
module

public import proofs.«01_k».proof.Proof.Gen.ReferenceMlpIdeal.Read
public import proofs.«01_k».proof.Proof.MlpModel

@[expose] public section

set_option maxRecDepth 16384

noncomputable section

open Idealize.ShloMosaic Idealize.ShloMosaic.TcCoe Idealize.SL.Sem

namespace Cert.MlpModel

open Cert.MergeModel

/-- A matrix with rows and columns exchanged. -/
def turned {n p : ℕ} (w : Mat n p) : Mat p n := fun i => w (ix2 (i 1) (i 0))

/-- Minus one half, and one half, and one. -/
def mhalf : EReal := Ideal.ofBits .f32 0xBF000000#32
def half : EReal := Ideal.ofBits .f32 0x3F000000#32
def one : EReal := Ideal.ofBits .f32 0x3F800000#32

/-- A row's mean square plus the constant. -/
def var {n : ℕ} (x : Mat n 1024) (s : Fin n) : EReal :=
  Ideal.div (∑ j : Fin 1024, x (ix2 s j) * x (ix2 s j)) width + eps

/-- The derivative of the norm along `z`, as differentiation line by line spells it: the factor of the row's own terms. -/
def rowTerm {n : ℕ} (x z : Mat n 1024) (s : Fin n) : EReal :=
  Ideal.div ((∑ j : Fin 1024, x (ix2 s j) * z (ix2 s j)) * (mhalf * Ideal.div (rms x s) (var x s))) width
/-- … and the derivative. -/
def vjp {n : ℕ} (x z : Mat n 1024) : Mat n 1024 := fun i =>
  z i * rms x (i 0) + x i * rowTerm x z (i 0) + rowTerm x z (i 0) * x i

/-- The derivative of the loss by the prediction, line by line. -/
def dout' {n : ℕ} (h : Mat n 1024) (g : Mat 1 1024) (t : Mat n 1024) : Mat n 1024 := fun i =>
  Ideal.div (half * one) width * (two * miss h g t i)

/-- The derivative by the mixer's first product, line by line. -/
def dfirst' {n p : ℕ} (d y : Mat n 1024) (w1 w2 : Mat p 1024) : Mat n p := fun i =>
  if 0 < mulT y w1 i then mulT d w2 i * (two * relu y w1 i) else 0

end Cert.MlpModel

namespace Cert.ReferenceMlpIdeal.Result

open Cert.ReferenceMlpIdeal Cert.ReferenceMlpIdeal.Gen Cert.ReferenceMlpIdeal.Read Cert.MergeModel Cert.MlpModel

variable (x : Mat 4096 1024) (g g' : Mat 1 1024) (t : Mat 4096 1024) (w : Mat 1024 4096) (v : Mat 4096 1024)

theorem v6 : val_main_v6 (F := Ideal) x = fun i => var x (i 0) := by
  funext i
  pointwise [val_main_v6, val_main_v5, val_main_v4, val_main_v3, val_main_v2, val_main_v1, val_main_v0, val_main_cst, val_main_cst_0,
    val_main_cst_1, var, width, eps]

theorem v7 : val_main_v7 (F := Ideal) x = fun i => rms x (i 0) := by
  funext i
  unfold val_main_v7
  rw [v6]
  pointwise [rms, var]

theorem v10 : val_main_v10 (F := Ideal) x = fun i => mhalf * Ideal.div (rms x (i 0)) (var x (i 0)) := by
  funext i
  unfold val_main_v10 val_main_v8
  rw [v6, v7]
  pointwise [val_main_v9, val_main_cst_2, mhalf]

theorem v12 : val_main_v12 (F := Ideal) x = normed x := by
  funext i
  unfold val_main_v12 val_main_v11
  rw [v7]
  pointwise [normed]

theorem v14 : val_main_v14 (F := Ideal) x g = scaled x g := by
  funext i
  unfold val_main_v14
  rw [v12]
  pointwise [val_main_v13, scaled]

theorem v15 : val_main_v15 (F := Ideal) x g w = mulT (scaled x g) (turned w) := by
  funext i
  unfold val_main_v15
  rw [v14]
  pointwise [mulT, turned]

theorem v16 : val_main_v16 (F := Ideal) x g w = relu (scaled x g) (turned w) := by
  funext i
  unfold val_main_v16
  rw [v15]
  pointwise [val_main_call0_v0, val_main_call0_cst, relu]

theorem v20 : val_main_v20 (F := Ideal) x g w = squared (scaled x g) (turned w) := by
  funext i
  unfold val_main_v20
  rw [v16]
  pointwise [squared]

theorem v24 : val_main_v24 (F := Ideal) x g w v = mixed x g (turned w) v := by
  funext i
  unfold val_main_v24 val_main_v23
  rw [v20]
  pointwise [mixed, mul]

/-- The residual stream after the mixer. -/
abbrev H : Mat 4096 1024 := mixed x g (turned w) v

theorem v31 : val_main_v31 (F := Ideal) x g w v = fun i => var (H x g w v) (i 0) := by
  funext i
  unfold val_main_v31 val_main_v29 val_main_v27 val_main_v26 val_main_v25
  rw [v24]
  pointwise [val_main_v30, val_main_v28, val_main_cst_6, val_main_cst_7, val_main_cst_8, var, width, eps]

theorem v32 : val_main_v32 (F := Ideal) x g w v = fun i => rms (H x g w v) (i 0) := by
  funext i
  unfold val_main_v32
  rw [v31]
  pointwise [rms, var]

theorem v35 : val_main_v35 (F := Ideal) x g w v = fun i => mhalf * Ideal.div (rms (H x g w v) (i 0)) (var (H x g w v) (i 0)) := by
  funext i
  unfold val_main_v35 val_main_v33
  rw [v31, v32]
  pointwise [val_main_v34, val_main_cst_9, mhalf]

theorem v37 : val_main_v37 (F := Ideal) x g w v = normed (H x g w v) := by
  funext i
  unfold val_main_v37 val_main_v36
  rw [v24, v32]
  pointwise [normed]

theorem v40 : val_main_v40 (F := Ideal) x g g' t w v = miss (H x g w v) g' t := by
  funext i
  unfold val_main_v40 val_main_v39
  rw [v37]
  pointwise [val_main_v38, miss, scaled]

theorem v48 : val_main_v48 (F := Ideal) x g g' t w v = fun _ => half * ∑ s : Fin 4096, Ideal.div (∑ j : Fin 1024,
    miss (H x g w v) g' t (ix2 s j) * miss (H x g w v) g' t (ix2 s j)) width := by
  funext i
  unfold val_main_v48 val_main_v47 val_main_v46 val_main_v44 val_main_v41
  rw [v40]
  pointwise [val_main_v45, val_main_cst_11, val_main_cst_12, val_main_cst_13, val_main_cst_14, half, width]

theorem v54 : val_main_v54 (F := Ideal) x g g' t w v = dout' (H x g w v) g' t := by
  funext i
  unfold val_main_v54 val_main_v43
  rw [v40]
  pointwise [val_main_v53, val_main_v52, val_main_v51, val_main_v50, val_main_v49, val_main_cst_15, val_main_cst_16, val_main_cst_17,
    val_main_v42, val_main_cst_10, dout', half, one, two, width]

theorem v57 : val_main_v57 (F := Ideal) x g g' t w v = fun i => ∑ s : Fin 4096, normed (H x g w v) (ix2 s (i 1)) * dout' (H x g w v) g' t (ix2 s (i 1)) := by
  funext i
  unfold val_main_v57 val_main_v56 val_main_v55
  rw [v37, v54]
  pointwise [val_main_cst_18]

theorem v59 : val_main_v59 (F := Ideal) x g g' t w v = gained (dout' (H x g w v) g' t) g' := by
  funext i
  unfold val_main_v59
  rw [v54]
  pointwise [val_main_v58, gained]

theorem v68 : val_main_v68 (F := Ideal) x g g' t w v = fun i => rowTerm (H x g w v) (gained (dout' (H x g w v) g' t) g') (i 0) := by
  funext i
  unfold val_main_v68 val_main_v67 val_main_v65 val_main_v62 val_main_v61 val_main_v60
  rw [v35, v59, v24]
  pointwise [val_main_v66, val_main_cst_19, val_main_cst_20, val_main_cst_21, rowTerm, width]
  exact Fin.sum_univ_one _

/-- The derivative by the residual stream after the mixer. -/
abbrev D : Mat 4096 1024 := vjp (H x g w v) (gained (dout' (H x g w v) g' t) g')

theorem v73 : val_main_v73 (F := Ideal) x g g' t w v = D x g g' t w v := by
  funext i
  unfold val_main_v73 val_main_v71 val_main_v72 val_main_v70 val_main_v69 val_main_v64 val_main_v63
  rw [v68, v59, v24, v32]
  pointwise [vjp]

/-- The derivative by the first product. -/
abbrev E : Mat 4096 4096 := dfirst' (D x g g' t w v) (scaled x g) (turned w) v

theorem v77 : val_main_v77 (F := Ideal) x g g' t w v = E x g g' t w v := by
  funext i
  unfold val_main_v77 val_main_v18 val_main_v75 val_main_v74 val_main_v22
  rw [v73, v15, v16]
  pointwise [val_main_v17, val_main_v21, val_main_v76, val_main_cst_3, val_main_cst_5, val_main_cst_22, dfirst', mulT, two]

theorem v78 : val_main_v78 (F := Ideal) x g g' t w v = mul (E x g g' t w v) (turned w) := by
  funext i
  unfold val_main_v78
  rw [v77]
  pointwise [mul, turned]

theorem v81 : val_main_v81 (F := Ideal) x g g' t w v = fun i => ∑ s : Fin 4096, normed x (ix2 s (i 1)) * mul (E x g g' t w v) (turned w) (ix2 s (i 1)) := by
  funext i
  unfold val_main_v81 val_main_v80 val_main_v79
  rw [v12, v78]
  pointwise [val_main_cst_23]

theorem v83 : val_main_v83 (F := Ideal) x g g' t w v = gained (mul (E x g g' t w v) (turned w)) g := by
  funext i
  unfold val_main_v83
  rw [v78]
  pointwise [val_main_v82, gained]

theorem v92 : val_main_v92 (F := Ideal) x g g' t w v = fun i => rowTerm x (gained (mul (E x g g' t w v) (turned w)) g) (i 0) := by
  funext i
  unfold val_main_v92 val_main_v91 val_main_v89 val_main_v86 val_main_v85 val_main_v84
  rw [v10, v83]
  pointwise [val_main_v90, val_main_cst_24, val_main_cst_25, val_main_cst_26, rowTerm, width]
  exact Fin.sum_univ_one _

theorem v97 : val_main_v97 (F := Ideal) x g g' t w v = vjp x (gained (mul (E x g g' t w v) (turned w)) g) := by
  funext i
  unfold val_main_v97 val_main_v95 val_main_v96 val_main_v94 val_main_v93 val_main_v88 val_main_v87
  rw [v92, v83, v7]
  pointwise [vjp]

theorem v98 : val_main_v98 (F := Ideal) x g = scaled x g := by
  funext i
  unfold val_main_v98
  rw [v14]
  pointwise []

theorem v99 : val_main_v99 (F := Ideal) x g w = squared (scaled x g) (turned w) := by
  funext i
  unfold val_main_v99
  rw [v20]
  pointwise []

theorem v100 : val_main_v100 (F := Ideal) x g g' t w v = D x g g' t w v := by
  funext i
  unfold val_main_v100
  rw [v73]
  pointwise []

theorem v101 : val_main_v101 (F := Ideal) x g g' t w v = E x g g' t w v := by
  funext i
  unfold val_main_v101
  rw [v77]
  pointwise []

theorem v102 : val_main_v102 (F := Ideal) x g g' t w v = fun i => D x g g' t w v i + vjp x (gained (mul (E x g g' t w v) (turned w)) g) i := by
  funext i
  unfold val_main_v102
  rw [v73, v97]
  pointwise []

theorem v103 : val_main_v103 (F := Ideal) x g g' t w v = fun _ => half * ∑ s : Fin 4096, Ideal.div (∑ j : Fin 1024,
    miss (H x g w v) g' t (ix2 s j) * miss (H x g w v) g' t (ix2 s j)) width := by
  funext i
  unfold val_main_v103
  rw [v48]
  pointwise []

end Cert.ReferenceMlpIdeal.Result

end
-- ==== Proof.MlpMath.lean ====
/- The derivative of the norm, of the loss and of the squared relu, each in the two spellings, and the loss in the two
   orders of summation. All of it holds at infinite entries too. -/
module

public import proofs.«01_k».proof.Proof.MlpReference

@[expose] public section

set_option maxRecDepth 16384

noncomputable section

open Idealize.ShloMosaic Idealize.ShloMosaic.TcCoe Idealize.SL.Sem

namespace Cert.MlpModel

open Cert.MergeModel

theorem width_eq : width = ((1024 : ℝ) : EReal) := by
  simp [width, Ideal.ofBits, Ideal.ieee]
  rw [← EReal.coe_mul]
  norm_num
theorem eps_pos : ∃ e : ℝ, 0 < e ∧ eps = (e : EReal) := by
  refine ⟨8796093 * (2 : ℝ) ^ (-43 : ℤ), by norm_num, ?_⟩
  simp [eps, Ideal.ofBits, Ideal.ieee]
theorem share_eq : share = ((1 / 1024 : ℝ) : EReal) := by
  simp [share, Ideal.ofBits, Ideal.ieee]
  rw [← EReal.coe_mul]
  norm_num
theorem two_eq : two = ((2 : ℝ) : EReal) := by
  simp [two, Ideal.ofBits, Ideal.ieee]
  rw [← EReal.coe_mul]
  norm_num
theorem half_eq : half = ((1 / 2 : ℝ) : EReal) := by
  simp [half, Ideal.ofBits, Ideal.ieee]
  rw [← EReal.coe_mul]
  norm_num
theorem mhalf_eq : mhalf = ((-1 / 2 : ℝ) : EReal) := by
  simp [mhalf, Ideal.ofBits, Ideal.ieee]
  rw [← EReal.coe_mul]
  norm_num
theorem one_eq : one = ((1 : ℝ) : EReal) := by
  simp [one, Ideal.ofBits, Ideal.ieee]
  rw [← EReal.coe_mul]
  norm_num

/-- The quotient of two real numbers. -/
theorem div_coe (a b : ℝ) (h : b ≠ 0) : Ideal.div (a : EReal) (b : EReal) = ((a / b : ℝ) : EReal) := by
  rw [Ideal.div, if_neg (by exact_mod_cast h), ← EReal.coe_inv, ← EReal.coe_mul, div_eq_mul_inv]

/-- Division by the number of columns is multiplication by its inverse. -/
theorem div_width (a : EReal) : Ideal.div a width = a * ((1 / 1024 : ℝ) : EReal) := by
  rw [width_eq, Ideal.div, if_neg (by norm_num), ← EReal.coe_inv]
  norm_num

/-- A nonnegative real factor comes out of a sum of extended reals. -/
theorem sum_mul_coe {ι : Type} (S : Finset ι) (f : ι → EReal) (r : ℝ) (hr : 0 ≤ r) : ∑ j ∈ S, f j * (r : EReal) = (∑ j ∈ S, f j) * r := by
  classical
  induction S using Finset.induction_on with
  | empty => simp
  | insert a S ha ih =>
    rw [Finset.sum_insert ha, Finset.sum_insert ha, ih,
      EReal.right_distrib_of_nonneg_of_ne_top (EReal.coe_nonneg.mpr hr) (EReal.coe_ne_top r)]

/-- An extended real plus itself. -/
theorem twice (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_add, ← EReal.coe_mul, mul_two]

/-- What is under the norm's root is a positive real number, or infinite. -/
theorem var_pos {n : ℕ} (x : Mat n 1024) (s : Fin n) : (var x s = ⊤ ∧ rms x s = 0)
    ∨ ∃ v : ℝ, 0 < v ∧ var x s = (v : EReal) ∧ rms x s = (((Real.sqrt v)⁻¹ : ℝ) : EReal) := by
  obtain ⟨e, he, ee⟩ := eps_pos
  have h0 : (0 : EReal) ≤ Ideal.div (∑ j : Fin 1024, x (ix2 s j) * x (ix2 s j)) width := by
    rw [div_width]
    refine mul_nonneg (Finset.sum_nonneg fun j _ => ?_) (EReal.coe_nonneg.mpr (by norm_num))
    rcases le_total 0 (x (ix2 s j)) with h | h
    · exact mul_nonneg h h
    · rw [← neg_mul_neg]; exact mul_nonneg (EReal.neg_nonneg.mpr h) (EReal.neg_nonneg.mpr h)
  have hr : rms x s = Ideal.rsqrt (var x s) := rfl
  have hv : var x s = Ideal.div (∑ j : Fin 1024, x (ix2 s j) * x (ix2 s j)) width + e := by rw [← ee]; rfl
  generalize Ideal.div (∑ j : Fin 1024, x (ix2 s j) * x (ix2 s j)) width = a at h0 hv
  induction a with
  | bot => exact absurd h0 (by simp)
  | top =>
    refine .inl ⟨hv.trans (EReal.top_add_coe e), ?_⟩
    rw [hr, hv, EReal.top_add_coe]
    rfl
  | coe a =>
    have hp : 0 < a + e := add_pos_of_nonneg_of_pos (EReal.coe_nonneg.mp h0) he
    refine .inr ⟨a + e, hp, hv.trans (EReal.coe_add a e).symm, ?_⟩
    rw [hr, hv, ← EReal.coe_add, Ideal.rsqrt_coe, if_neg hp.not_gt, if_neg hp.ne']

/-- The derivative of the norm, in the two spellings. -/
theorem vjp_eq {n : ℕ} (x z : Mat n 1024) : vjp x z = back x z := by
  funext i
  obtain ⟨s, j, rfl⟩ : ∃ s j, i = ix2 s j := ⟨i 0, i 1, by ext a; fin_cases a <;> rfl⟩
  show z (ix2 s j) * rms x s + x (ix2 s j) * rowTerm x z s + rowTerm x z s * x (ix2 s j)
    = rms x s * (z (ix2 s j) - x (ix2 s j) * rms x s * Ideal.div (∑ l, z (ix2 s l) * (x (ix2 s l) * rms x s)) width)
  rcases var_pos x s with ⟨e1, e2⟩ | ⟨v, hv, e1, e2⟩
  · have ht : rowTerm x z s = 0 := by
      unfold rowTerm
      have hd : Ideal.div 0 ⊤ = 0 := by rw [Ideal.div, if_neg (by simp), zero_mul]
      rw [e1, e2, hd, mul_zero, mul_zero, div_width, zero_mul]
    rw [ht, e2, mul_zero, mul_zero, zero_mul, zero_mul, add_zero, add_zero]
  · have hr0 : 0 < (Real.sqrt v)⁻¹ := inv_pos.mpr (Real.sqrt_pos.mpr hv)
    have hr : (Real.sqrt v)⁻¹ / v = (Real.sqrt v)⁻¹ * (Real.sqrt v)⁻¹ * (Real.sqrt v)⁻¹ := by
      have h0 : Real.sqrt v ≠ 0 := (Real.sqrt_pos.mpr hv).ne'
      have h1 : v = Real.sqrt v * Real.sqrt v := (Real.mul_self_sqrt hv.le).symm
      rw [show (Real.sqrt v)⁻¹ / v = (Real.sqrt v)⁻¹ / (Real.sqrt v * Real.sqrt v) from by rw [← h1]]
      field_simp
    generalize (Real.sqrt v)⁻¹ = r at e2 hr hr0
    have ht : rowTerm x z s = (∑ l, x (ix2 s l) * z (ix2 s l)) * ((-(r * r * r) / 2048 : ℝ) : EReal) := by
      unfold rowTerm
      rw [e1, e2, div_coe _ _ hv.ne', mhalf_eq, ← EReal.coe_mul, div_width, mul_assoc, ← EReal.coe_mul, hr]
      congr 2
      ring
    have hs : ∑ l, z (ix2 s l) * (x (ix2 s l) * (r : EReal)) = (∑ l, x (ix2 s l) * z (ix2 s l)) * r := by
      rw [← sum_mul_coe _ _ r hr0.le]
      exact Finset.sum_congr rfl fun l _ => by rw [← mul_assoc, mul_comm (z _)]
    rw [ht, e2, hs, div_width]
    generalize ∑ l, x (ix2 s l) * z (ix2 s l) = S
    generalize x (ix2 s j) = X
    generalize z (ix2 s j) = Z
    rw [mul_comm (S * _) X, add_assoc, twice, sub_eq_add_neg,
      EReal.left_distrib_of_nonneg_of_ne_top (EReal.coe_nonneg.mpr hr0.le) (EReal.coe_ne_top r), mul_comm Z, mul_neg]
    congr 1
    rw [show X * (S * ((-(r * r * r) / 2048 : ℝ) : EReal)) * ((2 : ℝ) : EReal) = X * S * ((-(r * r * r) / 2048 * 2 : ℝ) : EReal) from by
        rw [EReal.coe_mul (-(r * r * r) / 2048) 2]; ac_rfl,
      show (r : EReal) * (X * r * (S * r * ((1 / 1024 : ℝ) : EReal))) = X * S * ((r * r * r * (1 / 1024) : ℝ) : EReal) from by
        rw [EReal.coe_mul, EReal.coe_mul, EReal.coe_mul]; ac_rfl,
      ← mul_neg (X * S), ← EReal.coe_neg]
    congr 2
    ring

/-- The derivative of the loss by the prediction, in the two spellings. -/
theorem dout_eq {n : ℕ} (h : Mat n 1024) (g : Mat 1 1024) (t : Mat n 1024) : dout' h g t = dout h g t := by
  funext i
  unfold dout' dout
  rw [half_eq, one_eq, width_eq, two_eq, share_eq, ← EReal.coe_mul, div_coe _ _ (by norm_num), ← mul_assoc, ← EReal.coe_mul, mul_comm]
  norm_num

/-- The derivative by the first product, in the two spellings: where the product is not positive, its relu is zero. -/
theorem dfirst_eq {n p : ℕ} (d y : Mat n 1024) (w1 w2 : Mat p 1024) : dfirst' d y w1 w2 = dfirst d y w1 w2 := by
  funext i
  unfold dfirst' dfirst
  split_ifs with h
  · rfl
  · rw [show relu y w1 i = 0 from max_eq_right (not_lt.mp h), mul_zero, mul_zero]

end Cert.MlpModel

end
-- ==== Proof.MlpArrays.lean ====
/- What the channel mixer's call leaves in its eight arrays, as functions of the arrays it reads. -/
module

public import proofs.«01_k».proof.Proof.MlpBlocks
public import proofs.«01_k».proof.Proof.MlpMath

@[expose] public section

set_option maxRecDepth 16384

noncomputable section

open Idealize.ShloMosaic Idealize.ShloMosaic.TcCoe Idealize.SL.Sem
open Idealize.ShloMosaic.Pipeline (Dat)

namespace Cert.MlpModel

open Cert.MergeModel

/-- Row `s` of band `t` among 4096 rows in bands of 256. -/
def brow (t : Fin 16) (s : Fin 256) : Fin 4096 := ⟨t.val * 256 + s.val, by omega⟩
/-- Band `t` of the rows of `A`. -/
def band {p : ℕ} (t : Fin 16) (A : Mat 4096 p) : Mat 256 p := fun i => A (ix2 (brow t (i 0)) (i 1))

/-- A sum over the rows, band by band. -/
theorem sum_bands (f : Fin 4096 → EReal) : ∑ t : Fin 16, ∑ s : Fin 256, f (brow t s) = ∑ r : Fin 4096, f r :=
  (Fin.sum_univ_tiles 16 256 rfl f).symm

variable (t : Fin 16) (x z d e h : Mat 4096 1024) (g : Mat 1 1024) (w1 w2 : Mat 4096 1024)

/-! Each row of a result depends on the same row of the argument alone. -/

theorem scaled_band : scaled (band t x) g = band t (scaled x g) := rfl
theorem normed_band : normed (band t x) = band t (normed x) := rfl
theorem squared_band : squared (band t x) w1 = band t (squared x w1) := rfl
theorem mixed_band : mixed (band t x) g w1 w2 = band t (mixed x g w1 w2) := rfl
theorem miss_band : miss (band t h) g (band t z) = band t (miss h g z) := rfl
theorem dout_band : dout (band t h) g (band t z) = band t (dout h g z) := rfl
theorem dmixed_band : dmixed (band t h) g (band t z) = band t (dmixed h g z) := rfl
theorem dfirst_band : dfirst (band t d) (band t x) w1 w2 = band t (dfirst d x w1 w2) := rfl
theorem dscaled_band : dscaled (band t d) (band t x) w1 w2 = band t (dscaled d x w1 w2) := rfl
theorem dinput_band : dinput (band t x) g (band t d) (band t e) = band t (dinput x g d e) := rfl

end Cert.MlpModel

namespace Cert.KernelMlpIdeal.Result

open Cert.KernelMlpIdeal Cert.KernelMlpIdeal.Gen Cert.MergeModel Cert.MlpModel

variable (m : (ℓ : Loc nD τ sig) → Buf (Elt Ideal) ℓ) (c : Dev nD)

/-- The block every window holds at point `t`: band `t` of the rows, or the whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![0, 0] :=
  (by decide +kernel : ∀ t : Fin grid0.N, _)

/-- The band a point works on. -/
def pt (t : Fin cfg0.N) : Fin 16 := ⟨t.val, t.isLt⟩

/-- The rows, the two gains and the targets the call reads. -/
abbrev XA : Mat 4096 1024 := V m c main_arg0
abbrev GA : Mat 1 1024 := V m c main_arg1
abbrev GB : Mat 1 1024 := V m c main_arg2
abbrev TA : Mat 4096 1024 := V m c main_arg3
/-- The residual stream after the mixer, the derivative by it, and the derivative by the normalised rows. -/
abbrev HA : Mat 4096 1024 := mixed (XA m c) (GA m c) (W1 m c) (W2 m c)
abbrev DA : Mat 4096 1024 := dmixed (HA m c) (GB m c) (TA m c)
abbrev SA : Mat 4096 1024 := dscaled (DA m c) (scaled (XA m c) (GA m c)) (W1 m c) (W2 m c)

theorem X_band (t : Fin cfg0.N) : X m c t = band (pt t) (XA m c) := by
  funext y
  unfold band
  blk_point [iblk, idx t]
  rfl
theorem T_band (t : Fin cfg0.N) : T m c t = band (pt t) (TA m c) := by
  funext y
  unfold band
  blk_point [iblk, idx t]
  rfl
theorem G_whole (t : Fin cfg0.N) : G m c t = GA m c := by
  funext y
  blk_point [iblk, idx t]
theorem G'_whole (t : Fin cfg0.N) : G' m c t = GB m c := by
  funext y
  blk_point [iblk, idx t]

theorem Y_band (t : Fin cfg0.N) : Y m c t = band (pt t) (scaled (XA m c) (GA m c)) := by
  unfold Y; rw [X_band, G_whole]; rfl
theorem Hm_band (t : Fin cfg0.N) : Hm m c t = band (pt t) (HA m c) := by
  unfold Hm; rw [X_band, G_whole]; rfl
theorem Dm_band (t : Fin cfg0.N) : Dm m c t = band (pt t) (DA m c) := by
  unfold Dm; rw [Hm_band, G'_whole, T_band]; rfl
theorem Ds_band (t : Fin cfg0.N) : Ds m c t = band (pt t) (SA m c) := by
  unfold Ds; rw [Dm_band, Y_band]; rfl

/-- The normalised rows. -/
theorem array4 : (dats m 0 c).arrAt 4 cfg0.N = scaled (XA m c) (GA m c) := by
  refine (dats m 0 c).arrAt_eq_of_covers 4 _ (by decide +kernel) fun t _ y => ?_
  blk_simp
  rw [after0_4, out4, Y_band]
  refine congrArg (scaled (XA m c) (GA m c)) (?_ : ix2 (brow (pt t) (y 0)) (y 1) = (win0_4.blk t).view.emb y)
  blk_ext [idx t]
  all_goals rfl

/-- The squared relu. -/
theorem array5 : (dats m 0 c).arrAt 5 cfg0.N = squared (scaled (XA m c) (GA m c)) (W1 m c) := by
  refine (dats m 0 c).arrAt_eq_of_covers 5 _ (by decide +kernel) fun t _ y => ?_
  blk_simp
  rw [after0_5, out5, Y_band, squared_band]
  refine congrArg (squared (scaled (XA m c) (GA m c)) (W1 m c)) (?_ : ix2 (brow (pt t) (y 0)) (y 1) = (win0_5.blk t).view.emb y)
  blk_ext [idx t]
  all_goals rfl

/-- The derivative by the residual stream after the mixer. -/
theorem array6 : (dats m 0 c).arrAt 6 cfg0.N = DA m c := by
  refine (dats m 0 c).arrAt_eq_of_covers 6 _ (by decide +kernel) fun t _ y => ?_
  blk_simp
  rw [after0_6, out6, Dm_band]
  refine congrArg (DA m c) (?_ : ix2 (brow (pt t) (y 0)) (y 1) = (win0_6.blk t).view.emb y)
  blk_ext [idx t]
  all_goals rfl

/-- The derivative by the mixer's first product. -/
theorem array7 : (dats m 0 c).arrAt 7 cfg0.N = dfirst (DA m c) (scaled (XA m c) (GA m c)) (W1 m c) (W2 m c) := by
  refine (dats m 0 c).arrAt_eq_of_covers 7 _ (by decide +kernel) fun t _ y => ?_
  blk_simp
  rw [after0_7, out7, Dm_band, Y_band, dfirst_band]
  refine congrArg (dfirst (DA m c) (scaled (XA m c) (GA m c)) (W1 m c) (W2 m c)) (?_ : ix2 (brow (pt t) (y 0)) (y 1) = (win0_7.blk t).view.emb y)
  blk_ext [idx t]
  all_goals rfl

/-- The derivative by the mixer's input. -/
theorem array8 : (dats m 0 c).arrAt 8 cfg0.N = dinput (XA m c) (GA m c) (DA m c) (SA m c) := by
  refine (dats m 0 c).arrAt_eq_of_covers 8 _ (by decide +kernel) fun t _ y => ?_
  blk_simp
  rw [after0_8, out8, Dm_band, Ds_band, X_band, G_whole, dinput_band]
  refine congrArg (dinput (XA m c) (GA m c) (DA m c) (SA m c)) (?_ : ix2 (brow (pt t) (y 0)) (y 1) = (win0_8.blk t).view.emb y)
  blk_ext [idx t]
  all_goals rfl

/-- A point's number within the single run of the accumulators. -/
theorem pt_run (t : Fin cfg0.N) (s : Fin 16) (h) : pt ⟨16 * (t.val / 16) + s.val, h⟩ = s := by
  have := lt_of_lt_of_eq t.isLt N_0
  exact Fin.ext (by show 16 * (t.val / 16) + s.val = s.val; omega)

/-- The loss, in every lane. -/
theorem array9 : (dats m 0 c).arrAt 9 cfg0.N = fun _ : (⟨2, ![1, 128]⟩ : Shape).Idx => ∑ t : Fin 16, (∑ s : Fin 256, ∑ j : Fin 1024,
    miss (HA m c) (GB m c) (TA m c) (ix2 (brow t s) j) * miss (HA m c) (GB m c) (TA m c) (ix2 (brow t s) j)) * lossShare := by
  refine (dats m 0 c).arrAt_eq_of_covers 9 _ (by decide +kernel) fun t hf y => ?_
  blk_simp
  rw [after0_9, Pipeline.eq_sum_fin_of_reset_step_apply_of_flush (fun n h => (outsAt0 m c n h).2.2.2.2.2.1) 16 (fun _ => 0) (part9 m c)
    (loss_first m c) (loss_next m c) t ((flush0_9 t).mp hf) _, zero_add]
  refine Fin.sum_fin_congr fun s => ?_
  rw [part9, Hm_band, G'_whole, T_band, pt_run]
  rfl

/-- The derivative by the gain of the norm after the mixer. -/
theorem array10 : (dats m 0 c).arrAt 10 cfg0.N = fun i : (⟨2, ![1, 1024]⟩ : Shape).Idx => ∑ s : Fin 4096,
    dout (HA m c) (GB m c) (TA m c) (ix2 s (i 1)) * normed (HA m c) (ix2 s (i 1)) := by
  refine (dats m 0 c).arrAt_eq_of_covers 10 _ (by decide +kernel) fun t hf y => ?_
  blk_simp
  rw [after0_10, Pipeline.eq_sum_fin_of_reset_step_apply_of_flush (fun n h => (outsAt0 m c n h).2.2.2.2.2.2.1) 16 (fun _ => 0) (part10 m c)
    (gainOut_first m c) (gainOut_next m c) t ((flush0_10 t).mp hf) _, zero_add, show (win0_10.blk t).view.emb y = y from by blk_ext [idx t]]
  refine Eq.trans (Fin.sum_fin_congr fun s => ?_) (sum_bands fun r => dout (HA m c) (GB m c) (TA m c) (ix2 r (y 1)) * normed (HA m c) (ix2 r (y 1)))
  rw [part10, Hm_band, G'_whole, T_band, pt_run]
  rfl

/-- The derivative by the gain of the norm before the mixer. -/
theorem array11 : (dats m 0 c).arrAt 11 cfg0.N = fun i : (⟨2, ![1, 1024]⟩ : Shape).Idx => ∑ s : Fin 4096,
    SA m c (ix2 s (i 1)) * normed (XA m c) (ix2 s (i 1)) := by
  refine (dats m 0 c).arrAt_eq_of_covers 11 _ (by decide +kernel) fun t hf y => ?_
  blk_simp
  rw [after0_11, Pipeline.eq_sum_fin_of_reset_step_apply_of_flush (fun n h => (outsAt0 m c n h).2.2.2.2.2.2.2.1) 16 (fun _ => 0) (part11 m c)
    (gainIn_first m c) (gainIn_next m c) t ((flush0_11 t).mp hf) _, zero_add, show (win0_11.blk t).view.emb y = y from by blk_ext [idx t]]
  refine Eq.trans (Fin.sum_fin_congr fun s => ?_) (sum_bands fun r => SA m c (ix2 r (y 1)) * normed (XA m c) (ix2 r (y 1)))
  rw [part11, Ds_band, X_band, pt_run]
  rfl

end Cert.KernelMlpIdeal.Result

end
-- ==== Proof.Mlp.lean ====
/- The channel mixer's call with its loss and gradient: the call's eight results are the reference's, at infinite entries
   too. -/
module

public import proofs.«01_k».proof.Defs
public import proofs.«01_k».proof.Proof.Gen.KernelMlp
public import proofs.«01_k».proof.Proof.MlpArrays
public import proofs.«01_k».proof.Proof.MlpReference
public import proofs.«01_k».proof.Proof.Gen.ReferenceMlpIdeal.Run
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.KernelMlpIdeal.Result

open Cert.KernelMlpIdeal Cert.KernelMlpIdeal.Gen Cert.MergeModel Cert.MlpModel

variable (m : (ℓ : Loc nD τ sig) → Buf (Elt Ideal) ℓ) (c : Dev nD)

/-- Argument `b` as launched. -/
abbrev arg (b : Ref sig .tc) := m ((c : Thread nD τ).loc b)

/-- The first weight reaches the call with its rows and columns exchanged. -/
theorem first_weight : W1 m c = turned (n := 1024) (p := 4096) (arg m c main_arg4) := by
  funext i
  show StableHlo.after hostOps0 (fun b => m (c, b)) (Proc.devRef .tc main_v1) i = _
  after_results
  pointwise [turned]
/-- The second weight reaches it as it is. -/
theorem second_weight : W2 m c = arg m c main_arg5 := by
  show StableHlo.after hostOps0 (fun b => m (c, b)) (Proc.devRef .tc main_v2) = _
  after_results
  rfl

theorem lossShare_eq : lossShare = ((1 / 2048 : ℝ) : EReal) := by
  simp [lossShare, Ideal.ofBits, Ideal.ieee]
  rw [← EReal.coe_mul]
  norm_num

/-- The loss, summed band by band or row by row. -/
theorem loss_eq (f : Fin 4096 → EReal) : ∑ t : Fin 16, (∑ s : Fin 256, f (brow t s)) * lossShare
    = half * ∑ r : Fin 4096, Ideal.div (f r) width := by
  have hs : ∑ r : Fin 4096, Ideal.div (f r) width = (∑ r, f r) * ((1 / 1024 : ℝ) : EReal) := by
    rw [← sum_mul_coe _ _ _ (by norm_num)]
    exact Finset.sum_congr rfl fun r _ => div_width _
  rw [hs, lossShare_eq, sum_mul_coe _ _ _ (by norm_num), sum_bands, half_eq, mul_left_comm, ← EReal.coe_mul]
  norm_num

open Cert.ReferenceMlpIdeal.Result in
/-- The derivative by the residual stream after the mixer is the reference's. -/
theorem stream : DA m c = D (arg m c main_arg0) (arg m c main_arg1) (arg m c main_arg2) (arg m c main_arg3) (arg m c main_arg4) (arg m c main_arg5) := by
  unfold DA HA XA GA GB TA D
  rw [V_main_arg0, V_main_arg1, V_main_arg2, V_main_arg3, first_weight, second_weight, vjp_eq, dout_eq]
  rfl

open Cert.ReferenceMlpIdeal.Result in
/-- The derivative by the first product is the reference's. -/
theorem product : dfirst (DA m c) (scaled (XA m c) (GA m c)) (W1 m c) (W2 m c)
    = E (arg m c main_arg0) (arg m c main_arg1) (arg m c main_arg2) (arg m c main_arg3) (arg m c main_arg4) (arg m c main_arg5) := by
  unfold E XA GA
  rw [stream, V_main_arg0, V_main_arg1, first_weight, second_weight, dfirst_eq]

open Cert.ReferenceMlpIdeal.Result in
/-- The residual stream after the mixer is the reference's. -/
theorem mixer : HA m c = H (arg m c main_arg0) (arg m c main_arg1) (arg m c main_arg4) (arg m c main_arg5) := by
  unfold HA XA GA H
  rw [V_main_arg0, V_main_arg1, first_weight, second_weight]

open Cert.ReferenceMlpIdeal.Result in
/-- The derivative by the normalised rows is the reference's. -/
theorem normalised : SA m c = mul (E (arg m c main_arg0) (arg m c main_arg1) (arg m c main_arg2) (arg m c main_arg3) (arg m c main_arg4) (arg m c main_arg5))
    (turned (n := 1024) (p := 4096) (arg m c main_arg4)) := by
  show mul (dfirst (DA m c) (scaled (XA m c) (GA m c)) (W1 m c) (W2 m c)) (W1 m c) = _
  rw [product, first_weight]

/-! Each of the reference's results is the array the call leaves. -/

variable {x : Mat 4096 1024} {g g' : Mat 1 1024} {t : Mat 4096 1024} {w : Mat 1024 4096} {v : Mat 4096 1024}
  (h0 : x = arg m c main_arg0) (h1 : g = arg m c main_arg1) (h2 : g' = arg m c main_arg2) (h3 : t = arg m c main_arg3)
  (h4 : w = arg m c main_arg4) (h5 : v = arg m c main_arg5)

open Cert.ReferenceMlpIdeal.Read Cert.ReferenceMlpIdeal.Result

include h0 h1 in
theorem result4 : val_main_v98 (F := Ideal) x g = (dats m 0 c).arrAt 4 cfg0.N := by
  subst h0 h1
  rw [v98, array4]
  unfold XA GA
  rw [V_main_arg0, V_main_arg1]

include h0 h1 h4 in
theorem result5 : val_main_v99 (F := Ideal) x g w = (dats m 0 c).arrAt 5 cfg0.N := by
  subst h0 h1 h4
  rw [v99, array5, first_weight]
  unfold XA GA
  rw [V_main_arg0, V_main_arg1]

include h0 h1 h2 h3 h4 h5

theorem result6 : val_main_v100 (F := Ideal) x g g' t w v = (dats m 0 c).arrAt 6 cfg0.N := by
  subst h0 h1 h2 h3 h4 h5
  rw [v100, array6, stream]

theorem result7 : val_main_v101 (F := Ideal) x g g' t w v = (dats m 0 c).arrAt 7 cfg0.N := by
  subst h0 h1 h2 h3 h4 h5
  rw [v101, array7, product]

theorem result8 : val_main_v102 (F := Ideal) x g g' t w v = (dats m 0 c).arrAt 8 cfg0.N := by
  subst h0 h1 h2 h3 h4 h5
  rw [v102, array8, stream, normalised, vjp_eq]
  unfold XA GA
  rw [V_main_arg0, V_main_arg1]
  rfl

theorem result9 : val_main_v103 (F := Ideal) x g g' t w v = (dats m 0 c).arrAt 9 cfg0.N := by
  subst h0 h1 h2 h3 h4 h5
  rw [v103, array9, mixer]
  unfold GB TA
  rw [V_main_arg2, V_main_arg3]
  exact funext fun _ => (loss_eq _).symm

theorem result10 : val_main_v57 (F := Ideal) x g g' t w v = (dats m 0 c).arrAt 10 cfg0.N := by
  subst h0 h1 h2 h3 h4 h5
  rw [v57, array10, mixer, dout_eq]
  unfold GB TA
  rw [V_main_arg2, V_main_arg3]
  exact funext fun _ => Finset.sum_congr rfl fun _ _ => mul_comm _ _

theorem result11 : val_main_v81 (F := Ideal) x g g' t w v = (dats m 0 c).arrAt 11 cfg0.N := by
  subst h0 h1 h2 h3 h4 h5
  rw [v81, array11, normalised]
  unfold XA
  rw [V_main_arg0]
  exact funext fun _ => Finset.sum_congr rfl fun _ _ => mul_comm _ _

end Cert.KernelMlpIdeal.Result

namespace Cert.Mlp

open Cert.MergeModel Cert.MlpModel

section
attribute [local instance] Cert.KernelMlp.Gen.facts Cert.KernelMlpIdeal.Gen.facts

/-- The kernel and its idealized form have one body, label by label, … -/
theorem bodies : Cert.KernelMlp.defs₀ (F := Bits) = Cert.KernelMlpIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

/-- … so what is known of every run of the one is known of every run of the other. -/
theorem transfer (m : (ℓ : Loc Cert.KernelMlp.nD Cert.KernelMlp.τ Cert.KernelMlp.sig) → Buf (Elt Bits) ℓ) (ρ Q)
    (h : θ_run (Cert.KernelMlpIdeal.defs (F := Bits)) (onTc (τ := Cert.KernelMlpIdeal.τ) (Cert.KernelMlpIdeal.main (F := Bits))) ⟨m, fun _ => 0, ρ⟩ Q) :
    θ_run (Cert.KernelMlp.defs (F := Bits)) (onTc (τ := Cert.KernelMlp.τ) (Cert.KernelMlp.main (F := Bits))) ⟨m, fun _ => 0, ρ⟩ Q := by
  rw [show Cert.KernelMlp.defs (F := Bits) = Cert.KernelMlpIdeal.defs (F := Bits) from congrArg (Pipeline.defs Cert.KernelMlp.pcfgs) bodies]
  exact h

end

/-- The kernel ends with its arguments unchanged. -/
theorem frame : Cert.quiescent_KernelMlp (hKernelMlp := Cert.KernelMlp.Gen.facts) :=
  fun m ρ _ => transfer m ρ _ (Cert.KernelMlpIdeal.Gen.frame (F := Bits) m ρ)

/-- The idealized kernel ends with its arguments unchanged. -/
theorem frameIdeal : Cert.quiescent_KernelMlpIdeal (hKernelMlpIdeal := Cert.KernelMlpIdeal.Gen.facts) :=
  fun m ρ _ => Cert.KernelMlpIdeal.Gen.frame m ρ

set_option maxHeartbeats 1600000 in
/-- The reference ends with its arguments unchanged. -/
theorem reference : Cert.quiescent_ReferenceMlpIdeal (hReferenceMlpIdeal := Cert.ReferenceMlpIdeal.Gen.facts) := by
  intro m ρ _
  hlo_run
  · exact fun _ => by simp
  · exact sem_eq_zero_of_no_sems (sig := Cert.ReferenceMlpIdeal.sig) rfl _

open Cert.KernelMlpIdeal.Result Cert.KernelMlpIdeal.Gen in
/-- The results are equal. -/
theorem equal : Cert.algebraic_KernelMlpIdeal_ReferenceMlpIdeal (hKernelMlpIdeal := Cert.KernelMlpIdeal.Gen.facts)
    (hReferenceMlpIdeal := Cert.ReferenceMlpIdeal.Gen.facts) := by
  pair_intro
  · run_from Cert.KernelMlpIdeal.Value.run_blocks m g
  · run_from Cert.ReferenceMlpIdeal.Value.run m' g'
    all_goals obtain ⟨h0, h1, h2, h3, h4, h5⟩ := hagree c
    · exact (Cert.ReferenceMlpIdeal.Read.val_main_v98_eq (StableHlo.launchContents m' c)).trans (result4 m c h0 h1)
    · exact (Cert.ReferenceMlpIdeal.Read.val_main_v99_eq (StableHlo.launchContents m' c)).trans (result5 m c h0 h1 h4)
    · exact (Cert.ReferenceMlpIdeal.Read.val_main_v100_eq (StableHlo.launchContents m' c)).trans (result6 m c h0 h1 h2 h3 h4 h5)
    · exact (Cert.ReferenceMlpIdeal.Read.val_main_v101_eq (StableHlo.launchContents m' c)).trans (result7 m c h0 h1 h2 h3 h4 h5)
    · rw [← h0]
      exact (Cert.ReferenceMlpIdeal.Read.val_main_v102_eq (StableHlo.launchContents m' c)).trans (result8 m c h0 h1 h2 h3 h4 h5)
    · exact (Cert.ReferenceMlpIdeal.Read.val_main_v103_eq (StableHlo.launchContents m' c)).trans (result9 m c h0 h1 h2 h3 h4 h5)
    · exact (Cert.ReferenceMlpIdeal.Read.val_main_v57_eq (StableHlo.launchContents m' c)).trans (result10 m c h0 h1 h2 h3 h4 h5)
    · exact (Cert.ReferenceMlpIdeal.Read.val_main_v81_eq (StableHlo.launchContents m' c)).trans (result11 m c h0 h1 h2 h3 h4 h5)

end Cert.Mlp

end
-- ==== Proof.Run.lean ====
/- The run of the two calls: they end with each result array at what the second call's pipeline leaves, and with the
   arguments as launched. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run from any memory with zero counters: the eight results, and the arguments unchanged. -/
theorem run : θ_run defs (onTc (τ := τ) (main (F := F))) ⟨m, fun _ => 0, ρ⟩ (fun r => ∀ c : Dev nD,
      r.2.mem ((c.tc : Thread nD τ).loc main_v7_3) = W3 m ρ c (Proc.devRef .tc main_v7_3)
      ∧ r.2.mem ((c.tc : Thread nD τ).loc main_v8_0) = W3 m ρ c (Proc.devRef .tc main_v8_0)
      ∧ r.2.mem ((c.tc : Thread nD τ).loc main_v8_1) = W3 m ρ c (Proc.devRef .tc main_v8_1)
      ∧ r.2.mem ((c.tc : Thread nD τ).loc main_v8_2) = W3 m ρ c (Proc.devRef .tc main_v8_2)
      ∧ r.2.mem ((c.tc : Thread nD τ).loc main_v8_3) = W3 m ρ c (Proc.devRef .tc main_v8_3)
      ∧ r.2.mem ((c.tc : Thread nD τ).loc main_v8_4) = W3 m ρ c (Proc.devRef .tc main_v8_4)
      ∧ r.2.mem ((c.tc : Thread nD τ).loc main_v8_5) = W3 m ρ c (Proc.devRef .tc main_v8_5)
      ∧ r.2.mem ((c.tc : Thread nD τ).loc main_v8_6) = W3 m ρ c (Proc.devRef .tc main_v8_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v7_3 (by decide)),
       h c _ (mem_uc main_v8_0 (by decide)),
       h c _ (mem_uc main_v8_1 (by decide)),
       h c _ (mem_uc main_v8_2 (by decide)),
       h c _ (mem_uc main_v8_3 (by decide)),
       h c _ (mem_uc main_v8_4 (by decide)),
       h c _ (mem_uc main_v8_5 (by decide)),
       h c _ (mem_uc main_v8_6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.Run

end
-- ==== Proof.Forward.lean ====
/- The forward call: what its four result arrays hold after the grid, from the arrays its windows read. Each block of
   512 rows is the model's rows, so each array is the model of the whole arrays. -/
module

public import proofs.«01_k».proof.Proof.Gen.KernelIdeal.Frame.Region0
public import proofs.«01_k».proof.Proof.Model

@[expose] public section

set_option maxRecDepth 16384

noncomputable section

open Idealize.ShloMosaic Idealize.ShloMosaic.TcCoe Idealize.SL.Sem
open Idealize.ShloMosaic.Pipeline (Dat)

namespace Cert.KernelIdeal.Forward

open Cert.KernelIdeal Cert.KernelIdeal.Gen Cert.MergeModel

variable (V : (c : Dev nD) → (b : Ref sig .tc) → Buf (Elt Ideal) ((c : Thread nD τ).loc b))

/-- The block every window holds at point `t`: block `t` of the rows (of the columns, for the transposed attention
    rows), and the only block of the bias and of the weights. -/
theorem idx : ∀ t : Fin cfg0.N, win0_0.index t = ![0, t.val] ∧ win0_1.index t = ![t.val, 0] ∧ win0_2.index t = ![t.val, 0]
    ∧ win0_3.index t = ![0, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The attention branch's projection. -/
theorem attention (c : Dev nD) : (dat0 V c).arrAt 8 cfg0.N = tmul (V c main_v1) (V c main_v4) := by
  refine (dat0 V c).arrAt_eq_of_covers 8 _ (by decide +kernel) fun t _ y => ?_
  blk_simp
  rw [after0_8]; frame_out
  pointwise [k0_pay5, k0_pay2, tmul]
  blk_point [iblk0, idx t]

/-- The retention branch's projection. -/
theorem retention (c : Dev nD) : (dat0 V c).arrAt 9 cfg0.N = mul (V c main_v2) (V c main_v5) := by
  refine (dat0 V c).arrAt_eq_of_covers 9 _ (by decide +kernel) fun t _ y => ?_
  blk_simp
  rw [after0_9]; frame_out
  pointwise [k0_pay6, k0_pay3, mul]
  blk_point [iblk0, idx t]

/-- The merged rows. -/
theorem merged (c : Dev nD) : (dat0 V c).arrAt 10 cfg0.N
    = merge (V c main_v3) (V c main_arg4) (tmul (V c main_v1) (V c main_v4)) (mul (V c main_v2) (V c main_v5)) := by
  refine (dat0 V c).arrAt_eq_of_covers 10 _ (by decide +kernel) fun t _ y => ?_
  blk_simp
  rw [after0_10]; frame_out
  pointwise [k0_pay7, k0_pay4, k0_pay3, k0_pay2, mul, tmul, merge, gateA, gateR, lo, hi, MergeModel.sig]
  blk_point [iblk0, idx t]

/-- The residual output. -/
theorem output (c : Dev nD) : (dat0 V c).arrAt 11 cfg0.N
    = withInput (V c main_arg0) (merge (V c main_v3) (V c main_arg4) (tmul (V c main_v1) (V c main_v4)) (mul (V c main_v2) (V c main_v5)))
        (V c main_v6) := by
  refine (dat0 V c).arrAt_eq_of_covers 11 _ (by decide +kernel) fun t _ y => ?_
  blk_simp
  rw [after0_11]; frame_out
  pointwise [k0_pay1, k0_pay7, k0_pay4, k0_pay3, k0_pay2, mul, tmul, merge, withInput, gateA, gateR, lo, hi, MergeModel.sig]
  blk_point [iblk0, idx t]

end Cert.KernelIdeal.Forward

end
-- ==== Proof.Spec.lean ====
/- The eight results of the merge and its gradient, each as a function of the arguments: the residual input `x`, the
   attention rows `o`, the retention rows `y`, the gate inputs `g` and their bias `b`, the two projections `wa` and `wr`,
   the output weights `wo`, and the derivative `d` by the output. -/
module

public import proofs.«01_k».proof.Proof.Model

@[expose] public section

set_option maxRecDepth 16384

noncomputable section

namespace Cert.MergeModel

variable (x : Mat 4096 1024) (o : Mat 4096 512) (y : Mat 4096 1024) (g : Mat 4096 2048) (b : Mat 1 2048)
  (wa : Mat 512 1024) (wr wo : Mat 1024 1024) (d : Mat 4096 1024)

/-- The merged rows. -/
def mergedRows : Mat 4096 1024 := merge g b (mul o wa) (mul y wr)
/-- The derivative by the attention branch's projection. -/
def dProjA : Mat 4096 1024 := dya g b (mulT d wo)
/-- The derivative by the retention branch's projection. -/
def dProjR : Mat 4096 1024 := dyr g b (mulT d wo)
/-- The derivative by the attention gate's input. -/
def dGateA : Mat 4096 1024 := dza g b (mulT d wo) (mul o wa)
/-- The derivative by the retention gate's input. -/
def dGateR : Mat 4096 1024 := dzr g b (mulT d wo) (mul y wr)

/-- The output. -/
def output : Mat 4096 1024 := withInput x (mergedRows o y g b wa wr) wo
/-- The derivative by the gate inputs. -/
def dGates : Mat 4096 2048 := beside (dGateA o g b wa wo d) (dGateR y g b wr wo d)
/-- The derivative by the attention rows, transposed. -/
def dAttention : Mat 512 4096 := mulT wa (dProjA g b wo d)
/-- The derivative by the retention rows. -/
def dRetention : Mat 4096 1024 := mulT (dProjR g b wo d) wr
/-- The derivative by the gates' bias. -/
def dBias : Mat 1 2048 := beside (colSum (dGateA o g b wa wo d)) (colSum (dGateR y g b wr wo d))
/-- The derivative by the attention projection. -/
def dWeightA : Mat 512 1024 := tmul o (dProjA g b wo d)
/-- The derivative by the retention projection. -/
def dWeightR : Mat 1024 1024 := tmul y (dProjR g b wo d)
/-- The derivative by the output weights. -/
def dWeightO : Mat 1024 1024 := tmul (mergedRows o y g b wa wr) d

end Cert.MergeModel

end
-- ==== Proof.Entry.lean ====
/- What the two calls find in the arrays they read: the arguments themselves, the attention rows transposed (the
   roundings before the calls keep each value), and, for the second call, the arrays the first one left. -/
module

public import proofs.«01_k».proof.Proof.Forward
public import proofs.«01_k».proof.Proof.Spec
public import proofs.«01_k».proof.Proof.Gen.KernelIdeal.Frame.Fold0

@[expose] public section

set_option maxRecDepth 16384

noncomputable section

open Idealize.ShloMosaic Idealize.ShloMosaic.TcCoe Idealize.SL.Sem
open Idealize.ShloMosaic.Pipeline (Dat)

namespace Cert.KernelIdeal.Entry

open Cert.KernelIdeal Cert.KernelIdeal.Gen Cert.MergeModel

variable (m : (ℓ : Loc nD τ sig) → Buf (Elt Ideal) ℓ) (ρ : Dev nD → PrngReg) (c : Dev nD)

/-- Argument `b` as launched. -/
abbrev arg (b : Ref sig .tc) := m ((c : Thread nD τ).loc b)

/-! At the first call. -/

theorem attention : V1 m ρ c main_v1 = fun i : (⟨2, ![512, 4096]⟩ : Shape).Idx => arg m c main_arg1 (ix2 (i 1) (i 0)) := by
  funext i
  show StableHlo.after hostOps0 (W0 m ρ c) (Proc.devRef .tc main_v1) i = _
  after_results
  pointwise
theorem retention : V1 m ρ c main_v2 = arg m c main_arg2 := by
  show StableHlo.after hostOps0 (W0 m ρ c) (Proc.devRef .tc main_v2) = _
  after_results
  rfl
theorem gates : V1 m ρ c main_v3 = arg m c main_arg3 := by
  show StableHlo.after hostOps0 (W0 m ρ c) (Proc.devRef .tc main_v3) = _
  after_results
  rfl
theorem weightA : V1 m ρ c main_v4 = arg m c main_arg5 := by
  show StableHlo.after hostOps0 (W0 m ρ c) (Proc.devRef .tc main_v4) = _
  after_results
  rfl
theorem weightR : V1 m ρ c main_v5 = arg m c main_arg6 := by
  show StableHlo.after hostOps0 (W0 m ρ c) (Proc.devRef .tc main_v5) = _
  after_results
  rfl
theorem weightO : V1 m ρ c main_v6 = arg m c main_arg7 := by
  show StableHlo.after hostOps0 (W0 m ρ c) (Proc.devRef .tc main_v6) = _
  after_results
  rfl
theorem bias : V1 m ρ c main_arg4 = arg m c main_arg4 := W1_args m ρ c main_arg4 (by decide)
theorem input : V1 m ρ c main_arg0 = arg m c main_arg0 := W1_args m ρ c main_arg0 (by decide)

/-- The product of the transposed attention rows' transpose is the product of the attention rows. -/
theorem tmul_attention : tmul (V1 m ρ c main_v1) (V1 m ρ c main_v4) = mul (n := 4096) (k := 512) (p := 1024) (arg m c main_arg1) (arg m c main_arg5) := by
  rw [attention, weightA]; rfl

/-! At the second call. -/

theorem attention₂ : V2 m ρ c main_v1 = fun i : (⟨2, ![512, 4096]⟩ : Shape).Idx => arg m c main_arg1 (ix2 (i 1) (i 0)) :=
  (W2_of m ρ c main_v1 (by decide)).trans (attention m ρ c)
theorem retention₂ : V2 m ρ c main_v2 = arg m c main_arg2 := (W2_of m ρ c main_v2 (by decide)).trans (retention m ρ c)
theorem gates₂ : V2 m ρ c main_v3 = arg m c main_arg3 := (W2_of m ρ c main_v3 (by decide)).trans (gates m ρ c)
theorem weightA₂ : V2 m ρ c main_v4 = arg m c main_arg5 := (W2_of m ρ c main_v4 (by decide)).trans (weightA m ρ c)
theorem weightR₂ : V2 m ρ c main_v5 = arg m c main_arg6 := (W2_of m ρ c main_v5 (by decide)).trans (weightR m ρ c)
theorem weightO₂ : V2 m ρ c main_v6 = arg m c main_arg7 := (W2_of m ρ c main_v6 (by decide)).trans (weightO m ρ c)
theorem bias₂ : V2 m ρ c main_arg4 = arg m c main_arg4 := W2_args m ρ c main_arg4 (by decide)
theorem derivative₂ : V2 m ρ c main_arg8 = arg m c main_arg8 := W2_args m ρ c main_arg8 (by decide)

/-- The attention branch's projection, left by the first call. -/
theorem projectionA : V2 m ρ c main_v7_0 = mul (n := 4096) (k := 512) (p := 1024) (arg m c main_arg1) (arg m c main_arg5) :=
  (W2_arr m ρ c 8).trans ((Forward.attention (V1 m ρ) c).trans (tmul_attention m ρ c))
/-- The retention branch's projection. -/
theorem projectionR : V2 m ρ c main_v7_1 = mul (n := 4096) (k := 1024) (p := 1024) (arg m c main_arg2) (arg m c main_arg6) :=
  (W2_arr m ρ c 9).trans ((Forward.retention (V1 m ρ) c).trans (by rw [retention, weightR]))
/-- The merged rows. -/
theorem merged : V2 m ρ c main_v7_2
    = mergedRows (arg m c main_arg1) (arg m c main_arg2) (arg m c main_arg3) (arg m c main_arg4) (arg m c main_arg5) (arg m c main_arg6) :=
  (W2_arr m ρ c 10).trans ((Forward.merged (V1 m ρ) c).trans (by
    rw [tmul_attention, retention, weightR, gates, bias]; rfl))
/-- The first call's result. -/
theorem output₂ : V2 m ρ c main_v7_3 = output (arg m c main_arg0) (arg m c main_arg1) (arg m c main_arg2) (arg m c main_arg3)
    (arg m c main_arg4) (arg m c main_arg5) (arg m c main_arg6) (arg m c main_arg7) :=
  (W2_arr m ρ c 11).trans ((Forward.output (V1 m ρ) c).trans (by
    rw [tmul_attention, retention, weightR, gates, bias, input, weightO]; rfl))

end Cert.KernelIdeal.Entry

end
-- ==== Proof.Payloads.lean ====
/- What the backward call's body computes at one block of 512 rows, as the model: each value the body stores, over the
   blocks it loads. -/
module

public import proofs.«01_k».proof.Proof.Gen.KernelIdeal.Skeleton
public import proofs.«01_k».proof.Proof.Model

@[expose] public section

set_option maxRecDepth 16384

noncomputable section

open Idealize.ShloMosaic Idealize.ShloMosaic.TcCoe Idealize.SL.Sem

namespace Cert.KernelIdeal.Payloads

open Cert.KernelIdeal Cert.KernelIdeal.Gen Cert.MergeModel

/-- The derivative by the merged rows. -/
theorem dmerged (d wo) : k1_pay9 (F := Ideal) d wo = mulT (n := 512) (k := 1024) (p := 1024) d wo := by
  funext i
  pointwise [k1_pay9, k1_pay8, mulT]

/-- The sigmoid's left half is the attention gate. -/
theorem gateLeft (g b) : k1_pay11 (F := Ideal) g b = gateA (n := 512) g b := by
  funext i
  pointwise [k1_pay11, k1_pay10, gateA, MergeModel.sig, lo]

/-- The sigmoid's right half is the retention gate. -/
theorem gateRight (g b) : k1_pay12 (F := Ideal) g b = gateR (n := 512) g b := by
  funext i
  pointwise [k1_pay12, k1_pay10, gateR, MergeModel.sig, hi]

/-- The derivative by the attention branch's projection. -/
theorem dAttention (d wo g b) : k1_pay13 (F := Ideal) d wo g b = dya (n := 512) g b (mulT (n := 512) (k := 1024) (p := 1024) d wo) := by
  funext i
  pointwise [k1_pay13, dya, dmerged, gateLeft]

/-- The derivative by the retention branch's projection. -/
theorem dRetention (d wo g b) : k1_pay14 (F := Ideal) d wo g b = dyr (n := 512) g b (mulT (n := 512) (k := 1024) (p := 1024) d wo) := by
  funext i
  pointwise [k1_pay14, dyr, dmerged, gateRight]

/-- The derivative by the attention gate's input. -/
theorem dGateLeft (d wo g b y) : k1_pay15 (F := Ideal) d wo g b y = dza (n := 512) g b (mulT (n := 512) (k := 1024) (p := 1024) d wo) y := by
  funext i
  pointwise [k1_pay15, dza, dmerged, gateLeft]

/-- The derivative by the retention gate's input. -/
theorem dGateRight (d wo g b y) : k1_pay17 (F := Ideal) (k1_pay12 g b) (k1_pay16 d wo y)
    = dzr (n := 512) g b (mulT (n := 512) (k := 1024) (p := 1024) d wo) y := by
  funext i
  pointwise [k1_pay17, k1_pay16, dzr, dmerged, gateRight]

/-- The derivative by the attention rows, transposed. -/
theorem dAttentionRows (dy wa) : k1_pay22 (F := Ideal) dy wa = mulT (n := 512) (k := 1024) (p := 512) wa dy := by
  funext i
  pointwise [k1_pay22, mulT]

/-- The derivative by the retention rows. -/
theorem dRetentionRows (dy wr) : k1_pay23 (F := Ideal) dy wr = mulT (n := 512) (k := 1024) (p := 1024) dy wr := by
  funext i
  pointwise [k1_pay23, mulT]

/-- The block's part of the derivative by the attention projection's weights. -/
theorem addAttentionWeights (dy acc o j) : k1_pay3 (F := Ideal) dy acc o j = acc j + tmul (n := 512) (k := 512) (p := 1024) (fun i => o (ix2 (i 1) (i 0))) dy j := by
  pointwise [k1_pay3, tmul]

/-- The block's part of the derivative by the retention projection's weights. -/
theorem addRetentionWeights (dy acc y j) : k1_pay2 (F := Ideal) dy acc y j = acc j + tmul (n := 1024) (k := 512) (p := 1024) y dy j := by
  pointwise [k1_pay2, tmul]

/-- The block's part of the derivative by the output weights. -/
theorem addOutputWeights (d acc mg j) : k1_pay1 (F := Ideal) (k1_pay8 d) acc mg j = acc j + tmul (n := 1024) (k := 512) (p := 1024) mg d j := by
  pointwise [k1_pay1, k1_pay8, tmul]

/-- The block's part of the attention gate's bias. -/
theorem addBiasLeft (z acc j) : k1_pay20 (F := Ideal) z acc j = acc j + colSum (n := 512) (p := 1024) z j := by
  pointwise [k1_pay20, colSum]

/-- The block's part of the retention gate's bias. -/
theorem addBiasRight (g z acc j) : k1_pay21 (F := Ideal) g z acc j = acc j + colSum (n := 512) (p := 1024) (k1_pay17 (F := Ideal) g z) j := by
  pointwise [k1_pay21, colSum]

theorem zeroBias (j) : k1_pay4 (F := Ideal) j = 0 := by pointwise [k1_pay4]
theorem zeroAttention (j) : k1_pay5 (F := Ideal) j = 0 := by pointwise [k1_pay5]
theorem zeroRetention (j) : k1_pay6 (F := Ideal) j = 0 := by pointwise [k1_pay6]
theorem zeroOutput (j) : k1_pay7 (F := Ideal) j = 0 := by pointwise [k1_pay7]

end Cert.KernelIdeal.Payloads

end
-- ==== Proof.Blocks.lean ====
/- The backward call's blocks: what each input window's buffer holds at a grid point, in the model's terms, from the
   arrays the call reads. -/
module

public import proofs.«01_k».proof.Proof.Gen.KernelIdeal.Frame.Region1
public import proofs.«01_k».proof.Proof.Payloads

@[expose] public section

set_option maxRecDepth 16384

noncomputable section

open Idealize.ShloMosaic Idealize.ShloMosaic.TcCoe Idealize.SL.Sem
open Idealize.ShloMosaic.Pipeline (Dat)

namespace Cert.KernelIdeal.Backward

open Cert.KernelIdeal Cert.KernelIdeal.Gen Cert.MergeModel

variable (V : (c : Dev nD) → (b : Ref sig .tc) → Buf (Elt Ideal) ((c : Thread nD τ).loc b))

/-- The block every window holds at point `t`: block `t` of the rows (of the columns, for the transposed attention
    rows and their derivative), and the only block of everything else. -/
theorem idx : ∀ t : Fin cfg1.N, win1_0.index t = ![t.val, 0] ∧ win1_1.index t = ![t.val, 0] ∧ win1_2.index t = ![t.val, 0]
    ∧ win1_3.index t = ![t.val, 0] ∧ win1_4.index t = ![0, 0] ∧ win1_5.index t = ![t.val, 0] ∧ win1_6.index t = ![0, t.val]
    ∧ win1_7.index t = ![t.val, 0] ∧ win1_8.index t = ![0, 0] ∧ win1_9.index t = ![0, 0] ∧ win1_10.index t = ![0, 0]
    ∧ win1_11.index t = ![t.val, 0] ∧ win1_12.index t = ![0, t.val] ∧ win1_13.index t = ![t.val, 0]
    ∧ win1_14.index t = ![0, 0] ∧ win1_15.index t = ![0, 0] ∧ win1_16.index t = ![0, 0] ∧ win1_17.index t = ![0, 0] :=
  (by decide +kernel : ∀ t : Fin grid1.N, _)

/-- A grid point as a block's number. -/
def pt (t : Fin cfg1.N) : Fin 8 := ⟨t.val, lt_of_lt_of_eq t.isLt N_1⟩

variable (c : Dev nD) (t : Fin cfg1.N)

theorem blk0 : iblk1 V c 0 t = rows (pt t) (V c main_arg8) := by
  funext y; unfold rows row pt; blk_ext [iblk1, idx t]
theorem blk1 : iblk1 V c 1 t = rows (pt t) (V c main_v7_0) := by
  funext y; unfold rows row pt; blk_ext [iblk1, idx t]
theorem blk2 : iblk1 V c 2 t = rows (pt t) (V c main_v7_1) := by
  funext y; unfold rows row pt; blk_ext [iblk1, idx t]
theorem blk3 : iblk1 V c 3 t = rows (pt t) (V c main_v3) := by
  funext y; unfold rows row pt; blk_ext [iblk1, idx t]
theorem blk4 : iblk1 V c 4 t = V c main_arg4 := by
  blk_ext! [iblk1, idx t]
theorem blk5 : iblk1 V c 5 t = rows (pt t) (V c main_v7_2) := by
  funext y; unfold rows row pt; blk_ext [iblk1, idx t]
theorem blk6 : iblk1 V c 6 t = cols (pt t) (V c main_v1) := by
  funext y; unfold cols row pt; blk_ext [iblk1, idx t]
theorem blk7 : iblk1 V c 7 t = rows (pt t) (V c main_v2) := by
  funext y; unfold rows row pt; blk_ext [iblk1, idx t]
theorem blk8 : iblk1 V c 8 t = V c main_v4 := by
  blk_ext! [iblk1, idx t]
theorem blk9 : iblk1 V c 9 t = V c main_v5 := by
  blk_ext! [iblk1, idx t]
theorem blk10 : iblk1 V c 10 t = V c main_v6 := by
  blk_ext! [iblk1, idx t]

end Cert.KernelIdeal.Backward

end
-- ==== Proof.Backward.lean ====
/- The backward call: what its seven result arrays hold after the grid, from the arrays its windows read. The
   derivatives of the rows are written block by block; those of the bias and of the three weights are summed over the
   eight blocks in a buffer that is written back at the last point. -/
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Backward

open Cert.KernelIdeal Cert.KernelIdeal.Gen Cert.MergeModel Cert.KernelIdeal.Payloads

variable (V : (c : Dev nD) → (b : Ref sig .tc) → Buf (Elt Ideal) ((c : Thread nD τ).loc b)) (c : Dev nD)

/-- The derivative by the merged rows. -/
def DM : Mat 4096 1024 := mulT (V c main_arg8) (V c main_v6)
/-- The derivative by the attention branch's projection. -/
def DYA : Mat 4096 1024 := dya (V c main_v3) (V c main_arg4) (DM V c)
/-- The derivative by the retention branch's projection. -/
def DYR : Mat 4096 1024 := dyr (V c main_v3) (V c main_arg4) (DM V c)
/-- The derivative by the attention gate's input. -/
def DZA : Mat 4096 1024 := dza (V c main_v3) (V c main_arg4) (DM V c) (V c main_v7_0)
/-- The derivative by the retention gate's input. -/
def DZR : Mat 4096 1024 := dzr (V c main_v3) (V c main_arg4) (DM V c) (V c main_v7_1)

/-! Each value the body computes at point `t` is the block of the array's. -/

theorem pDYA (t : Fin cfg1.N) : k1_pay13 (F := Ideal) (iblk1 V c 0 t) (iblk1 V c 10 t) (iblk1 V c 3 t) (iblk1 V c 4 t)
    = rows (pt t) (DYA V c) := by
  rw [blk0, blk10, blk3, blk4, dAttention]; rfl
theorem pDYR (t : Fin cfg1.N) : k1_pay14 (F := Ideal) (iblk1 V c 0 t) (iblk1 V c 10 t) (iblk1 V c 3 t) (iblk1 V c 4 t)
    = rows (pt t) (DYR V c) := by
  rw [blk0, blk10, blk3, blk4, dRetention]; rfl
theorem pDZA (t : Fin cfg1.N) : k1_pay15 (F := Ideal) (iblk1 V c 0 t) (iblk1 V c 10 t) (iblk1 V c 3 t) (iblk1 V c 4 t) (iblk1 V c 1 t)
    = rows (pt t) (DZA V c) := by
  rw [blk0, blk10, blk3, blk4, blk1, dGateLeft]; rfl
theorem pDZR (t : Fin cfg1.N) : k1_pay17 (F := Ideal) (k1_pay12 (iblk1 V c 3 t) (iblk1 V c 4 t)) (k1_pay16 (iblk1 V c 0 t) (iblk1 V c 10 t) (iblk1 V c 2 t))
    = rows (pt t) (DZR V c) := by
  rw [blk0, blk10, blk3, blk4, blk2, dGateRight]; rfl

/-! The derivatives of the rows, block by block. -/

theorem out12 (t : Fin cfg1.N) : (outsAt1 V c t.val t.isLt).2.1 = mulT (n := 512) (k := 1024) (V c main_v4) (rows (pt t) (DYA V c)) := by
  by_cases h : t.val % 8 = 0
  · rw [outsAt1_A V c t h]; frame_out; rw [pDYA, blk8, dAttentionRows]
  · rw [outsAt1_B V c t h]; frame_out; rw [pDYA, blk8, dAttentionRows]

theorem out13 (t : Fin cfg1.N) : (outsAt1 V c t.val t.isLt).2.2.1 = mulT (rows (pt t) (DYR V c)) (V c main_v5) := by
  by_cases h : t.val % 8 = 0
  · rw [outsAt1_A V c t h]; frame_out; rw [pDYR, blk9, dRetentionRows]
  · rw [outsAt1_B V c t h]; frame_out; rw [pDYR, blk9, dRetentionRows]

/-- The derivative by the attention rows, transposed. -/
theorem attentionRows : (dat1 V c).arrAt 12 cfg1.N = mulT (n := 512) (p := 4096) (V c main_v4) (DYA V c) := by
  refine (dat1 V c).arrAt_eq_of_covers 12 _ (by decide +kernel) fun t _ y => ?_
  blk_simp
  rw [after1_12, out12]
  pointwise [mulT, rows, row, pt]
  blk_point [idx t]

/-- The derivative by the retention rows. -/
theorem retentionRows : (dat1 V c).arrAt 13 cfg1.N = mulT (DYR V c) (V c main_v5) := by
  refine (dat1 V c).arrAt_eq_of_covers 13 _ (by decide +kernel) fun t _ y => ?_
  blk_simp
  rw [after1_13, out13]
  pointwise [mulT, rows, row, pt]
  blk_point [idx t]

/-! The derivatives of the weights, summed over the blocks. -/

/-- The points of the one run are the blocks' numbers. -/
theorem pt_run (t : Fin cfg1.N) (s : Fin 8) (h) : pt ⟨8 * (t.val / 8) + s.val, h⟩ = s := by
  have := lt_of_lt_of_eq t.isLt N_1
  exact Fin.ext (by show 8 * (t.val / 8) + s.val = s.val; omega)

/-- The derivative by the attention projection's weights. -/
theorem attentionWeights : (dat1 V c).arrAt 15 cfg1.N
    = tmul (fun i : (⟨2, ![4096, 512]⟩ : Shape).Idx => V c main_v1 (ix2 (i 1) (i 0))) (DYA V c) := by
  refine (dat1 V c).arrAt_eq_of_covers 15 _ (by decide +kernel) fun t hf y => ?_
  blk_simp
  rw [after1_15, Pipeline.eq_sum_fin_of_reset_step_apply_of_flush (fun n h => (outsAt1 V c n h).2.2.2.2.1) 8 (fun _ => 0) _
    (fun t h j => by rw [outsAt1_A V c t h]; frame_out; rw [pDYA, blk6, addAttentionWeights, zeroAttention])
    (fun t h j => by rw [outsAt1_B V c t h]; frame_out; rw [pDYA, blk6, addAttentionWeights])
    t ((flush1_15 t).mp hf) _, zero_add, show (win1_15.blk t).view.emb y = y from by blk_ext [idx t]]
  refine Eq.trans (Fin.sum_fin_congr fun s => ?_) (tmul_rows _ _ _)
  rw [pt_run]; rfl

/-- The derivative by the retention projection's weights. -/
theorem retentionWeights : (dat1 V c).arrAt 16 cfg1.N = tmul (k := 4096) (V c main_v2) (DYR V c) := by
  refine (dat1 V c).arrAt_eq_of_covers 16 _ (by decide +kernel) fun t hf y => ?_
  blk_simp
  rw [after1_16, Pipeline.eq_sum_fin_of_reset_step_apply_of_flush (fun n h => (outsAt1 V c n h).2.2.2.2.2.1) 8 (fun _ => 0) _
    (fun t h j => by rw [outsAt1_A V c t h]; frame_out; rw [pDYR, blk7, addRetentionWeights, zeroRetention])
    (fun t h j => by rw [outsAt1_B V c t h]; frame_out; rw [pDYR, blk7, addRetentionWeights])
    t ((flush1_16 t).mp hf) _, zero_add, show (win1_16.blk t).view.emb y = y from by blk_ext [idx t]]
  refine Eq.trans (Fin.sum_fin_congr fun s => ?_) (tmul_rows _ _ _)
  rw [pt_run]

/-- The derivative by the output weights. -/
theorem outputWeights : (dat1 V c).arrAt 17 cfg1.N = tmul (k := 4096) (V c main_v7_2) (V c main_arg8) := by
  refine (dat1 V c).arrAt_eq_of_covers 17 _ (by decide +kernel) fun t hf y => ?_
  blk_simp
  rw [after1_17, Pipeline.eq_sum_fin_of_reset_step_apply_of_flush (fun n h => (outsAt1 V c n h).2.2.2.2.2.2) 8 (fun _ => 0) _
    (fun t h j => by rw [outsAt1_A V c t h]; frame_out; rw [blk0, blk5, addOutputWeights, zeroOutput])
    (fun t h j => by rw [outsAt1_B V c t h]; frame_out; rw [blk0, blk5, addOutputWeights])
    t ((flush1_17 t).mp hf) _, zero_add, show (win1_17.blk t).view.emb y = y from by blk_ext [idx t]]
  refine Eq.trans (Fin.sum_fin_congr fun s => ?_) (tmul_rows _ _ _)
  rw [pt_run]

end Cert.KernelIdeal.Backward

end
-- ==== Proof.Gates.lean ====
/- The backward call's derivatives by the gates: the derivative by the gate inputs, whose two halves are stored side
   by side, and the derivative by their bias, whose two halves are summed over the eight blocks. -/
module

public import proofs.«01_k».proof.Proof.Backward
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Backward

open Cert.KernelIdeal Cert.KernelIdeal.Gen Cert.MergeModel Cert.KernelIdeal.Payloads

variable (V : (c : Dev nD) → (b : Ref sig .tc) → Buf (Elt Ideal) ((c : Thread nD τ).loc b)) (c : Dev nD)

/-- The first half of two arrays side by side. -/
theorem beside_left {n : ℕ} (A B : Mat n 1024) (x : (⟨2, ![n, 1024]⟩ : Shape).Idx) (y : (⟨2, ![n, 2048]⟩ : Shape).Idx)
    (h0 : (y 0).val = (x 0).val) (h1 : (y 1).val = (x 1).val) : beside A B y = A x := by
  have hx : (x 1).val < 1024 := (x 1).isLt
  unfold beside joined
  rw [dif_pos (show (y 1).val < 1024 by omega)]
  exact congrArg A (by funext a; refine Fin.cases (Fin.ext h0) (fun a => ?_) a; obtain rfl : a = 0 := Subsingleton.elim _ _; exact Fin.ext h1)

/-- The second half of two arrays side by side. -/
theorem beside_right {n : ℕ} (A B : Mat n 1024) (x : (⟨2, ![n, 1024]⟩ : Shape).Idx) (y : (⟨2, ![n, 2048]⟩ : Shape).Idx)
    (h0 : (y 0).val = (x 0).val) (h1 : (y 1).val = 1024 + (x 1).val) : beside A B y = B x := by
  unfold beside joined
  rw [dif_neg (show ¬ (y 1).val < 1024 by omega)]
  exact congrArg B (by
    funext a; refine Fin.cases (Fin.ext h0) (fun a => ?_) a; obtain rfl : a = 0 := Subsingleton.elim _ _
    exact Fin.ext (by show (y 1).val - 1024 = (x 1).val; omega))

/-- The sum over the blocks of two halves side by side is the two sums side by side. -/
theorem beside_colSum (A B : Mat 4096 1024) (j) :
    ∑ t : Fin 8, beside (colSum (rows t A)) (colSum (rows t B)) j = beside (colSum A) (colSum B) j := by
  unfold beside joined
  split
  · exact colSum_rows A _
  · exact colSum_rows B _

/-- The rounding before the store of the retention gate's derivative keeps the value. -/
theorem storedRight (g z) : k1_pay19 (F := Ideal) g z = k1_pay17 g z := by
  funext i
  pointwise [k1_pay19]
/-- The rounding before the store of the attention gate's derivative keeps the value. -/
theorem storedLeft (z) : k1_pay18 (F := Ideal) z = z := by
  funext i
  pointwise [k1_pay18]

/-- What the body leaves of the gate inputs' derivative at point `t`: the two halves side by side. -/
theorem out11 (t : Fin cfg1.N) (y : S512x2048.Idx) : (outsAt1 V c t.val t.isLt).1 y = beside (rows (pt t) (DZA V c)) (rows (pt t) (DZR V c)) y := by
  by_cases h : t.val % 8 = 0
  · rw [outsAt1_A V c t h]; frame_out; clear h
    rw [pDZA, storedRight, storedLeft, pDZR]
    canon_tiles x h
    · exact (beside_right _ _ x y (by omega) (by omega)).symm
    · exact (beside_left _ _ x y (by omega) (by omega)).symm
  · rw [outsAt1_B V c t h]; frame_out; clear h
    rw [pDZA, storedRight, storedLeft, pDZR]
    canon_tiles x h
    · exact (beside_right _ _ x y (by omega) (by omega)).symm
    · exact (beside_left _ _ x y (by omega) (by omega)).symm

/-- One block's part of the bias's derivative. -/
def biasPart (t : Fin cfg1.N) : Mat 1 2048 := beside (colSum (rows (pt t) (DZA V c))) (colSum (rows (pt t) (DZR V c)))

/-- The first point sums onto a zero fill. -/
theorem bias_first (t : Fin cfg1.N) (h : t.val % 8 = 0) (y : S1x2048.Idx) : (outsAt1 V c t.val t.isLt).2.2.2.1 y = 0 + biasPart V c t y := by
  rw [outsAt1_A V c t h]; frame_out; clear h
  rw [pDZA]
  simp (disch := decide) only [↓ View.readCov_skip, ↓ View.readCov_cons_toLoadRect, ↓ View.readCov_fill]
  refine View.canon_append_of_piecesOf (Val := Elt Ideal) (s := S1x2048) (e := .f32) (fun y => (0 + biasPart V c t y : EReal)) [_] [_, _] ⟨fun x => ?_, fun x => ?_, trivial⟩ y ?_
  · let r : Rect S1x2048 := Rect.unit ![0, 1024] ![1, 1024] inb_S1x2048_S1x1024_0_1024
    show k1_pay21 (F := Ideal) _ _ _ x = 0 + biasPart V c t (r.emb x)
    rw [addBiasRight, pDZR, biasPart, beside_right _ _ x (r.emb x) (by simp [r]) (by simp [r])]
    exact congrArg (· + _) (by pointwise [zeroBias])
  · let r : Rect S1x2048 := Rect.unit ![0, 0] ![1, 1024] inb_S1x2048_S1x1024_0_0
    show k1_pay20 (F := Ideal) _ _ x = 0 + biasPart V c t (r.emb x)
    rw [addBiasLeft, biasPart, beside_left _ _ x (r.emb x) (by simp [r]) (by simp [r])]
    exact congrArg (· + _) (by pointwise [zeroBias])
  · have h0 : (y 0).val < 1 := (y 0).isLt
    have h1 : (y 1).val < 2048 := (y 1).isLt
    by_cases hy : (y 1).val < 1024
    · refine ⟨_, List.mem_cons_of_mem _ List.mem_cons_self, (Rect.mem_set_unit (inb := inb_S1x2048_S1x1024_0_0)).2 fun a => ?_⟩
      refine Fin.cases ⟨Nat.zero_le _, h0⟩ (fun a => ?_) a
      obtain rfl : a = 0 := Subsingleton.elim _ _
      exact ⟨Nat.zero_le _, hy⟩
    · refine ⟨_, List.mem_cons_self, (Rect.mem_set_unit (inb := inb_S1x2048_S1x1024_0_1024)).2 fun a => ?_⟩
      refine Fin.cases ⟨Nat.zero_le _, h0⟩ (fun a => ?_) a
      obtain rfl : a = 0 := Subsingleton.elim _ _
      exact ⟨Nat.le_of_not_lt hy, h1⟩

/-- Each later point sums onto what the point before left. -/
theorem bias_next (t : Fin cfg1.N) (h : ¬ t.val % 8 = 0) (y : S1x2048.Idx) : (outsAt1 V c t.val t.isLt).2.2.2.1 y = (outsAt1 V c (t.val - 1) (by have := t.isLt; omega)).2.2.2.1 y + biasPart V c t y := by
  rw [outsAt1_B V c t h]; frame_out; clear h
  rw [pDZA]
  canon_tiles x h
  · rw [addBiasRight, pDZR, biasPart, beside_right _ _ x y (by omega) (by omega)]
    refine congrArg (· + _) ?_
    pointwise
    blk_point
  · rw [addBiasLeft, biasPart, beside_left _ _ x y (by omega) (by omega)]
    refine congrArg (· + _) ?_
    pointwise
    blk_point

/-- The derivative by the gate inputs. -/
theorem gateInputs : (dat1 V c).arrAt 11 cfg1.N = beside (DZA V c) (DZR V c) := by
  refine (dat1 V c).arrAt_eq_of_covers 11 _ (by decide +kernel) fun t _ y => ?_
  blk_simp
  rw [after1_11, out11]
  pointwise [beside, rows, row, pt]
  blk_point [idx t]
  refine congrArg _ (Fin.ext ?_)
  blk_simp
  rw [show win1_11.index t 1 = 0 from rfl]
  omega

/-- The derivative by the gates' bias. -/
theorem gateBias : (dat1 V c).arrAt 14 cfg1.N = beside (colSum (DZA V c)) (colSum (DZR V c)) := by
  refine (dat1 V c).arrAt_eq_of_covers 14 _ (by decide +kernel) fun t hf y => ?_
  blk_simp
  rw [after1_14, Pipeline.eq_sum_fin_of_reset_step_apply_of_flush (fun n h => (outsAt1 V c n h).2.2.2.1) 8 (fun _ => 0) (biasPart V c)
    (bias_first V c) (bias_next V c) t ((flush1_14 t).mp hf) _, zero_add, show (win1_14.blk t).view.emb y = y from by blk_ext [idx t]]
  refine Eq.trans (Fin.sum_fin_congr fun s => ?_) (beside_colSum _ _ _)
  rw [biasPart, pt_run]

end Cert.KernelIdeal.Backward

end
-- ==== Proof.Results.lean ====
/- The eight results of the two calls, each as the model of the arguments. -/
module

public import proofs.«01_k».proof.Proof.Entry
public import proofs.«01_k».proof.Proof.Gates

@[expose] public section

set_option maxRecDepth 16384

noncomputable section

open Idealize.ShloMosaic Idealize.ShloMosaic.TcCoe Idealize.SL.Sem
open Idealize.ShloMosaic.Pipeline (Dat)

namespace Cert.KernelIdeal.Results

open Cert.KernelIdeal Cert.KernelIdeal.Gen Cert.KernelIdeal.Entry Cert.KernelIdeal.Backward Cert.MergeModel

variable (m : (ℓ : Loc nD τ sig) → Buf (Elt Ideal) ℓ) (ρ : Dev nD → PrngReg) (c : Dev nD)

/-! The rows' derivatives, of the arguments. -/

theorem projDA : DYA (V2 m ρ) c = dProjA (arg m c main_arg3) (arg m c main_arg4) (arg m c main_arg7) (arg m c main_arg8) := by
  unfold DYA DM; rw [gates₂, bias₂, derivative₂, weightO₂]; rfl
theorem projDR : DYR (V2 m ρ) c = dProjR (arg m c main_arg3) (arg m c main_arg4) (arg m c main_arg7) (arg m c main_arg8) := by
  unfold DYR DM; rw [gates₂, bias₂, derivative₂, weightO₂]; rfl
theorem gateDA : DZA (V2 m ρ) c = dGateA (arg m c main_arg1) (arg m c main_arg3) (arg m c main_arg4) (arg m c main_arg5)
    (arg m c main_arg7) (arg m c main_arg8) := by
  unfold DZA DM; rw [gates₂, bias₂, derivative₂, weightO₂, projectionA]; rfl
theorem gateDR : DZR (V2 m ρ) c = dGateR (arg m c main_arg2) (arg m c main_arg3) (arg m c main_arg4) (arg m c main_arg6)
    (arg m c main_arg7) (arg m c main_arg8) := by
  unfold DZR DM; rw [gates₂, bias₂, derivative₂, weightO₂, projectionR]; rfl

/-! The results. -/

theorem h1 : W3 m ρ c (Proc.devRef .tc main_v7_3) = output (arg m c main_arg0) (arg m c main_arg1) (arg m c main_arg2) (arg m c main_arg3)
    (arg m c main_arg4) (arg m c main_arg5) (arg m c main_arg6) (arg m c main_arg7) :=
  (W3_of m ρ c main_v7_3 (by decide)).trans (output₂ m ρ c)
theorem gates : W3 m ρ c (Proc.devRef .tc main_v8_0) = dGates (arg m c main_arg1) (arg m c main_arg2) (arg m c main_arg3)
    (arg m c main_arg4) (arg m c main_arg5) (arg m c main_arg6) (arg m c main_arg7) (arg m c main_arg8) :=
  (W3_arr m ρ c 11).trans ((gateInputs (V2 m ρ) c).trans (by rw [gateDA, gateDR]; rfl))
theorem attention : W3 m ρ c (Proc.devRef .tc main_v8_1) = dAttention (arg m c main_arg3) (arg m c main_arg4) (arg m c main_arg5)
    (arg m c main_arg7) (arg m c main_arg8) :=
  (W3_arr m ρ c 12).trans ((attentionRows (V2 m ρ) c).trans (by rw [projDA, weightA₂]; rfl))
theorem retention : W3 m ρ c (Proc.devRef .tc main_v8_2) = dRetention (arg m c main_arg3) (arg m c main_arg4) (arg m c main_arg6)
    (arg m c main_arg7) (arg m c main_arg8) :=
  (W3_arr m ρ c 13).trans ((retentionRows (V2 m ρ) c).trans (by rw [projDR, weightR₂]; rfl))
theorem bias : W3 m ρ c (Proc.devRef .tc main_v8_3) = dBias (arg m c main_arg1) (arg m c main_arg2) (arg m c main_arg3)
    (arg m c main_arg4) (arg m c main_arg5) (arg m c main_arg6) (arg m c main_arg7) (arg m c main_arg8) :=
  (W3_arr m ρ c 14).trans ((gateBias (V2 m ρ) c).trans (by rw [gateDA, gateDR]; rfl))
theorem weightA : W3 m ρ c (Proc.devRef .tc main_v8_4) = dWeightA (arg m c main_arg1) (arg m c main_arg3) (arg m c main_arg4)
    (arg m c main_arg7) (arg m c main_arg8) :=
  (W3_arr m ρ c 15).trans ((attentionWeights (V2 m ρ) c).trans (by rw [projDA, attention₂]; rfl))
theorem weightR : W3 m ρ c (Proc.devRef .tc main_v8_5) = dWeightR (arg m c main_arg2) (arg m c main_arg3) (arg m c main_arg4)
    (arg m c main_arg7) (arg m c main_arg8) :=
  (W3_arr m ρ c 16).trans ((retentionWeights (V2 m ρ) c).trans (by rw [projDR, retention₂]; rfl))
theorem weightO : W3 m ρ c (Proc.devRef .tc main_v8_6) = dWeightO (arg m c main_arg1) (arg m c main_arg2) (arg m c main_arg3)
    (arg m c main_arg4) (arg m c main_arg5) (arg m c main_arg6) (arg m c main_arg8) :=
  (W3_arr m ρ c 17).trans ((outputWeights (V2 m ρ) c).trans (by rw [merged, derivative₂]; rfl))

end Cert.KernelIdeal.Results

end
-- ==== Proof.Reference.lean ====
/- The reference's results, as the model: stage by stage, then each of the eight. -/
module

public import proofs.«01_k».proof.Proof.Gen.ReferenceIdeal.Read
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.ReferenceIdeal.Results

open Cert.ReferenceIdeal Cert.ReferenceIdeal.Gen Cert.ReferenceIdeal.Read Cert.MergeModel

variable (x : Mat 4096 1024) (o : Mat 4096 512) (y : Mat 4096 1024) (g : Mat 4096 2048) (b : Mat 1 2048)
  (wa : Mat 512 1024) (wr wo : Mat 1024 1024) (d : Mat 4096 1024)

/-! The stages. -/

theorem projA : val_main_v0 (F := Ideal) o wa = mul o wa := by
  funext i; pointwise [val_main_v0, mul]
theorem projR : val_main_v1 (F := Ideal) y wr = mul y wr := by
  funext i; pointwise [val_main_v1, mul]
theorem sigA : val_main_v12 (F := Ideal) g b = gateA g b := by
  funext i
  pointwise [val_main_v12, val_main_v11, val_main_cst_0, val_main_v10, val_main_v9, val_main_cst, val_main_v8, val_main_v7,
    val_main_v6, val_main_v5, val_main_v4, val_main_v2, gateA, MergeModel.sig, lo]
  rw [zero_sub]
theorem sigR : val_main_v24 (F := Ideal) g b = gateR g b := by
  funext i
  pointwise [val_main_v24, val_main_v23, val_main_cst_3, val_main_v22, val_main_v21, val_main_cst_2, val_main_v20, val_main_v19,
    val_main_v18, val_main_v17, val_main_v16, val_main_v3, gateR, MergeModel.sig, hi]
  rw [zero_sub]
theorem dmerged : val_main_v36 (F := Ideal) wo d = mulT d wo := by
  funext i; pointwise [val_main_v36, val_main_v33, mulT]
theorem rowsMerged : val_main_v30 (F := Ideal) o y g b wa wr = mergedRows o y g b wa wr := by
  funext i
  pointwise [val_main_v30, val_main_v29, val_main_v28, projA, projR, sigA, sigR, mergedRows, merge]
theorem projDA : val_main_v39 (F := Ideal) g b wo d = dProjA g b wo d := by
  funext i
  pointwise [val_main_v39, sigA, dmerged, dProjA, dya]
  exact mul_comm _ _
theorem projDR : val_main_v37 (F := Ideal) g b wo d = dProjR g b wo d := by
  funext i
  pointwise [val_main_v37, sigR, dmerged, dProjR, dyr]
  exact mul_comm _ _
theorem gateDA : val_main_v45 (F := Ideal) o g b wa wo d = dGateA o g b wa wo d := by
  funext i
  pointwise [val_main_v45, val_main_v40, val_main_v15, val_main_v14, val_main_v13, val_main_cst_1, sigA, dmerged, projA, dGateA, dza]
  exact (mul_assoc _ _ _).symm
theorem gateDR : val_main_v41 (F := Ideal) y g b wr wo d = dGateR y g b wr wo d := by
  funext i
  pointwise [val_main_v41, val_main_v38, val_main_v27, val_main_v26, val_main_v25, val_main_cst_4, sigR, dmerged, projR, dGateR, dzr]
  exact (mul_assoc _ _ _).symm

/-! The results. -/

theorem h1 : val_main_v32 (F := Ideal) x o y g b wa wr wo = output x o y g b wa wr wo := by
  funext i
  pointwise [val_main_v32, val_main_v31, rowsMerged, output, withInput, mul]
theorem gates : val_main_v57 (F := Ideal) o y g b wa wr wo d = dGates o y g b wa wr wo d := by
  funext i
  pointwise [val_main_v57, val_main_v50, gateDA, gateDR, dGates, beside, joined]
theorem attention : val_main_v59 (F := Ideal) g b wa wo d = dAttention g b wa wo d := by
  funext i
  pointwise [val_main_v59, val_main_v58, val_main_v56, projDA, dAttention, mulT]
  exact Finset.sum_congr rfl fun _ _ => mul_comm _ _
theorem retention : val_main_v60 (F := Ideal) g b wr wo d = dRetention g b wr wo d := by
  funext i
  pointwise [val_main_v60, val_main_v53, projDR, dRetention, mulT]
theorem weightA : val_main_v55 (F := Ideal) o g b wo d = dWeightA o g b wo d := by
  funext i
  pointwise [val_main_v55, val_main_v54, projDA, dWeightA, tmul]
  exact Finset.sum_congr rfl fun _ _ => mul_comm _ _
theorem weightR : val_main_v52 (F := Ideal) y g b wo d = dWeightR y g b wo d := by
  funext i
  pointwise [val_main_v52, val_main_v51, projDR, dWeightR, tmul]
  exact Finset.sum_congr rfl fun _ _ => mul_comm _ _
theorem weightO : val_main_v35 (F := Ideal) o y g b wa wr d = dWeightO o y g b wa wr d := by
  funext i
  pointwise [val_main_v35, val_main_v34, val_main_v33, rowsMerged, dWeightO, tmul]
  exact Finset.sum_congr rfl fun _ _ => mul_comm _ _
theorem bias : val_main_v49 (F := Ideal) o y g b wa wr wo d = dBias o y g b wa wr wo d := by
  funext i
  pointwise [val_main_v49, val_main_v48, val_main_v47, val_main_v46, val_main_cst_7, val_main_cst_8, val_main_v44, val_main_v43,
    val_main_v42, val_main_cst_5, val_main_cst_6, gateDA, gateDR, dBias, beside, joined, colSum]
  have hj : (i 1).val < 2048 := (i 1).isLt
  by_cases h : (i 1).val < 1024
  · rw [dif_neg (by omega), dif_pos h, dif_pos h, zero_add]
  · rw [dif_pos (by omega), dif_neg h, dif_neg h, add_zero]

end Cert.ReferenceIdeal.Results

end
-- ==== Proof.lean ====
/- The claims, for each of the five pairs of kernel and reference: the three programs end with their arguments unchanged;
   the idealized kernel is the kernel's own text; and the idealized kernel's results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelMlp
public import proofs.«01_k».proof.Proof.Gen.KernelMlp.Skeleton
public import proofs.«01_k».proof.Proof.Gen.KernelMlp.Launch
public import proofs.«01_k».proof.Proof.Gen.KernelMlp.Points
public import proofs.«01_k».proof.Proof.Gen.KernelMlpIdeal
public import proofs.«01_k».proof.Proof.Gen.KernelMlpIdeal.Skeleton
public import proofs.«01_k».proof.Proof.Gen.KernelMlpIdeal.Launch
public import proofs.«01_k».proof.Proof.Gen.KernelMlpIdeal.Points
public import proofs.«01_k».proof.Proof.Gen.ReferenceMlpIdeal
public import proofs.«01_k».proof.Proof.Gen.ReferenceMlpIdeal.Run
public import proofs.«01_k».proof.Proof.Gen.ReferenceMlpIdeal.Read
public import proofs.«01_k».proof.Proof.Down
public import proofs.«01_k».proof.Proof.Up
public import proofs.«01_k».proof.Proof.In
public import proofs.«01_k».proof.Proof.Mlp
public import proofs.«01_k».proof.Proof.Run
public import proofs.«01_k».proof.Proof.Results
public import proofs.«01_k».proof.Proof.Reference
public import Idealize.ShloMosaic.Adequacy
public import Idealize.ShloMosaic.Init

@[expose] public section

noncomputable section

namespace Cert.Proof

open Idealize.ShloMosaic Idealize.SL.Sem Cert.ReferenceIdeal

set_option maxHeartbeats 1600000 in
/-- The reference ends with its arguments unchanged. -/
theorem reference : Cert.quiescent_ReferenceIdeal (hReferenceIdeal := Cert.ReferenceIdeal.Gen.facts) := by
  intro m ρ _
  hlo_run
  · exact fun _ => by simp
  · exact sem_eq_zero_of_no_sems (sig := sig) rfl _

/-- The results are equal: each is the model of the arguments. -/
theorem equal : Cert.algebraic_KernelIdeal_ReferenceIdeal (hKernelIdeal := Cert.KernelIdeal.Gen.facts)
    (hReferenceIdeal := Cert.ReferenceIdeal.Gen.facts) := by
  pair_intro
  · run_from Cert.KernelIdeal.Run.run m g
  · run_from Cert.ReferenceIdeal.Value.run m' g'
    · exact (Read.val_main_v32_eq _ _ _ _ _ _ _ _).trans ((ReferenceIdeal.Results.h1 _ _ _ _ _ _ _ _).trans (KernelIdeal.Results.h1 m g c).symm)
    · obtain ⟨_, h1, h2, h3, h4, h5, h6, h7, h8⟩ := hagree c
      refine (Read.val_main_v57_eq _ _ _ _ _ _ _ _).trans ?_
      rw [h1, h2, h3, h4, h5, h6, h7, h8]
      exact (ReferenceIdeal.Results.gates _ _ _ _ _ _ _ _).trans (KernelIdeal.Results.gates m g c).symm
    · exact (Read.val_main_v59_eq _ _ _ _ _).trans ((ReferenceIdeal.Results.attention _ _ _ _ _).trans (KernelIdeal.Results.attention m g c).symm)
    · exact (Read.val_main_v60_eq _ _ _ _ _).trans ((ReferenceIdeal.Results.retention _ _ _ _ _).trans (KernelIdeal.Results.retention m g c).symm)
    · exact (Read.val_main_v49_eq _ _ _ _ _ _ _ _).trans ((ReferenceIdeal.Results.bias _ _ _ _ _ _ _ _).trans (KernelIdeal.Results.bias m g c).symm)
    · exact (Read.val_main_v55_eq _ _ _ _ _).trans ((ReferenceIdeal.Results.weightA _ _ _ _ _).trans (KernelIdeal.Results.weightA m g c).symm)
    · exact (Read.val_main_v52_eq _ _ _ _ _).trans ((ReferenceIdeal.Results.weightR _ _ _ _ _).trans (KernelIdeal.Results.weightR m g c).symm)
    · exact (Read.val_main_v35_eq _ _ _ _ _ _ _).trans ((ReferenceIdeal.Results.weightO _ _ _ _ _ _ _).trans (KernelIdeal.Results.weightO m g c).symm)

theorem claim : Cert.Claim := ⟨Cert.Kernel.Gen.facts, Cert.KernelIdeal.Gen.facts, Cert.ReferenceIdeal.Gen.facts,
  Cert.KernelDown.Gen.facts, Cert.KernelDownIdeal.Gen.facts, Cert.ReferenceDownIdeal.Gen.facts,
  Cert.KernelUp.Gen.facts, Cert.KernelUpIdeal.Gen.facts, Cert.ReferenceUpIdeal.Gen.facts,
  Cert.KernelIn.Gen.facts, Cert.KernelInIdeal.Gen.facts, Cert.ReferenceInIdeal.Gen.facts,
  Cert.KernelMlp.Gen.facts, Cert.KernelMlpIdeal.Gen.facts, Cert.ReferenceMlpIdeal.Gen.facts,
  fun m ρ _ => Cert.Kernel.Gen.frame m ρ, fun m ρ _ => Cert.KernelIdeal.Gen.frame m ρ, reference,
  fun m ρ _ => Cert.KernelDown.Gen.frame m ρ, fun m ρ _ => Cert.KernelDownIdeal.Gen.frame m ρ, Cert.Down.reference,
  fun m ρ _ => Cert.KernelUp.Gen.frame m ρ, fun m ρ _ => Cert.KernelUpIdeal.Gen.frame m ρ, Cert.Up.reference,
  fun m ρ _ => Cert.KernelIn.Gen.frame m ρ, fun m ρ _ => Cert.KernelInIdeal.Gen.frame m ρ, Cert.In.reference,
  Cert.Mlp.frame, Cert.Mlp.frameIdeal, Cert.Mlp.reference,
  trivial, equal, trivial, Cert.Down.equal, trivial, Cert.Up.equal, trivial, Cert.In.equal,
  trivial, Cert.Mlp.equal⟩

end Cert.Proof

end
